-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_edges [hPre_off_edges : Cert.Pre_off_edges.Facts] (m : (ℓ : Loc Cert.KernelIdeal.nD Cert.KernelIdeal.τ Cert.KernelIdeal.sig) → Buf (Elt Ideal) ℓ) : Prop :=
  ∀ c : Dev Cert.KernelIdeal.nD,
    (Cert.Pre_off_edges.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_edges [hPre_off_edges : Cert.Pre_off_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_edges.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_off_edges [hKernelIdeal : Cert.KernelIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_off_edges [hReferenceIdeal : Cert.ReferenceIdeal.Facts] [hPre_off_edges : Cert.Pre_off_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_off_edges [hKernelIdeal : Cert.KernelIdeal.Facts] [hReferenceIdeal : Cert.ReferenceIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_off_edges : Cert.Pre_off_edges.Facts),
    quiescent_Kernel (hKernel := hKernel)
    ∧ quiescent_KernelIdeal (hKernelIdeal := hKernelIdeal)
    ∧ quiescent_KernelIdeal_pre_off_edges (hKernelIdeal := hKernelIdeal) (hPre_off_edges := hPre_off_edges)
    ∧ quiescent_ReferenceIdeal (hReferenceIdeal := hReferenceIdeal)
    ∧ quiescent_ReferenceIdeal_pre_off_edges (hReferenceIdeal := hReferenceIdeal) (hPre_off_edges := hPre_off_edges)
    ∧ preserves_Kernel_KernelIdeal
    ∧ algebraic_KernelIdeal_ReferenceIdeal_pre_off_edges (hKernelIdeal := hKernelIdeal) (hReferenceIdeal := hReferenceIdeal) (hPre_off_edges := hPre_off_edges)
-- ==== Pre_off_edges.lean ====
abbrev S8x3x512x512 : Shape := ⟨4, ![8, 3, 512, 512]⟩
abbrev S_ : Shape := ⟨0, ![]⟩
abbrev S8x3x514x514 : Shape := ⟨4, ![8, 3, 514, 514]⟩

class Facts : Prop where
  pads_S8x3x512x512_S8x3x514x514_000_000_110_110 : S8x3x512x512.Pads (![0, 0, 1, 1] : Fin 4 → Nat) ![0, 0, 1, 1] ![0, 0, 0, 0] S8x3x514x514
  h_S_ : 0 < S_.numel
  slices_S8x3x514x514_S8x3x512x512_0_0_0_0 : S8x3x514x514.Slices ![0, 0, 0, 0] S8x3x512x512
  slices_S8x3x514x514_S8x3x512x512_0_0_0_2 : S8x3x514x514.Slices ![0, 0, 0, 2] S8x3x512x512
  slices_S8x3x514x514_S8x3x512x512_0_0_1_0 : S8x3x514x514.Slices ![0, 0, 1, 0] S8x3x512x512
  bcast_S_S8x3x512x512 : S_.BroadcastsInDim S8x3x512x512 (![] : Fin 0 → Fin S8x3x512x512.rank)
  slices_S8x3x514x514_S8x3x512x512_0_0_1_2 : S8x3x514x514.Slices ![0, 0, 1, 2] S8x3x512x512
  slices_S8x3x514x514_S8x3x512x512_0_0_2_0 : S8x3x514x514.Slices ![0, 0, 2, 0] S8x3x512x512
  slices_S8x3x514x514_S8x3x512x512_0_0_2_2 : S8x3x514x514.Slices ![0, 0, 2, 2] S8x3x512x512
  slices_S8x3x514x514_S8x3x512x512_0_0_0_1 : S8x3x514x514.Slices ![0, 0, 0, 1] S8x3x512x512
  slices_S8x3x514x514_S8x3x512x512_0_0_2_1 : S8x3x514x514.Slices ![0, 0, 2, 1] S8x3x512x512

variable [Facts]

def fn_pad {F : FTy → Type} [FloatOps F] (arg0 : FVec F S8x3x512x512 .f32) (arg1 : IVec S_ 32) : FVec F S8x3x514x514 .f32 :=
  let v0 : FVec F S_ .f32 := sitofp .f32 arg1
  let v1 : FVec F S8x3x514x514 .f32 := (fun x v => pad S8x3x514x514 ![0, 0, 1, 1] ![0, 0, 1, 1] ![0, 0, 0, 0] x v pads_S8x3x512x512_S8x3x514x514_000_000_110_110 h_S_) arg0 v0
  v1

def fn_part3 {F : FTy → Type} [FloatOps F] (main_v15 : FVec F S8x3x512x512 .f32) (main_v30 : FVec F S8x3x512x512 .f32) (main_v55 : IVec S8x3x512x512 1) (main_v60 : FVec F S8x3x512x512 .f32) : IVec S8x3x512x512 1 :=
  let main_v61 : FVec F S8x3x512x512 .f32 := Host.absf main_v60
  let main_v62 : FVec F S8x3x512x512 .f32 := Host.absf main_v15
  let main_cst_9 : FVec F S_ .f32 := constant S_ .f32 0x34000000#32
  let main_v63 : FVec F S8x3x512x512 .f32 := broadcastInDim S8x3x512x512 ![] bcast_S_S8x3x512x512 main_cst_9
  let main_v64 : FVec F S8x3x512x512 .f32 := mulf main_v62 main_v63
  let main_v65 : IVec S8x3x512x512 1 := cmpf .oge main_v61 main_v64
  let main_v66 : IVec S8x3x512x512 1 := andi main_v55 main_v65
  let main_v67 : FVec F S8x3x512x512 .f32 := Host.absf main_v15
  let main_cst_10 : FVec F S_ .f32 := constant S_ .f32 0x3EA65BE0#32
  let main_v68 : FVec F S8x3x512x512 .f32 := broadcastInDim S8x3x512x512 ![] bcast_S_S8x3x512x512 main_cst_10
  let main_v69 : FVec F S8x3x512x512 .f32 := mulf main_v67 main_v68
  let main_v70 : FVec F S8x3x512x512 .f32 := Host.absf main_v30
  let main_v71 : FVec F S8x3x512x512 .f32 := subf main_v69 main_v70
  let main_v72 : FVec F S8x3x512x512 .f32 := Host.absf main_v71
  let main_v73 : FVec F S8x3x512x512 .f32 := Host.absf main_v15
  let main_cst_11 : FVec F S_ .f32 := constant S_ .f32 0x34000000#32
  let main_v74 : FVec F S8x3x512x512 .f32 := broadcastInDim S8x3x512x512 ![] bcast_S_S8x3x512x512 main_cst_11
  let main_v75 : FVec F S8x3x512x512 .f32 := mulf main_v73 main_v74
  let main_v76 : IVec S8x3x512x512 1 := cmpf .oge main_v72 main_v75
  let main_v77 : IVec S8x3x512x512 1 := andi main_v66 main_v76
  main_v77

def fn_part2 {F : FTy → Type} [FloatOps F] (main_v15 : FVec F S8x3x512x512 .f32) (main_v30 : FVec F S8x3x512x512 .f32) (main_v33 : IVec S8x3x512x512 1) (main_v39 : FVec F S8x3x512x512 .f32) (main_v40 : FVec F S8x3x512x512 .f32) : IVec S8x3x512x512 1 :=
  let main_cst_5 : FVec F S_ .f32 := constant S_ .f32 0x34000000#32
  let main_v41 : FVec F S8x3x512x512 .f32 := broadcastInDim S8x3x512x512 ![] bcast_S_S8x3x512x512 main_cst_5
  let main_v42 : FVec F S8x3x512x512 .f32 := mulf main_v40 main_v41
  let main_v43 : IVec S8x3x512x512 1 := cmpf .oge main_v39 main_v42
  let main_v44 : IVec S8x3x512x512 1 := andi main_v33 main_v43
  let main_v45 : FVec F S8x3x512x512 .f32 := Host.absf main_v15
  let main_cst_6 : FVec F S_ .f32 := constant S_ .f32 0x3FB02D48#32
  let main_v46 : FVec F S8x3x512x512 .f32 := broadcastInDim S8x3x512x512 ![] bcast_S_S8x3x512x512 main_cst_6
  let main_v47 : FVec F S8x3x512x512 .f32 := mulf main_v45 main_v46
  let main_v48 : FVec F S8x3x512x512 .f32 := Host.absf main_v30
  let main_v49 : FVec F S8x3x512x512 .f32 := subf main_v47 main_v48
  let main_v50 : FVec F S8x3x512x512 .f32 := Host.absf main_v49
  let main_v51 : FVec F S8x3x512x512 .f32 := Host.absf main_v15
  let main_cst_7 : FVec F S_ .f32 := constant S_ .f32 0x34000000#32
  let main_v52 : FVec F S8x3x512x512 .f32 := broadcastInDim S8x3x512x512 ![] bcast_S_S8x3x512x512 main_cst_7
  let main_v53 : FVec F S8x3x512x512 .f32 := mulf main_v51 main_v52
  let main_v54 : IVec S8x3x512x512 1 := cmpf .oge main_v50 main_v53
  let main_v55 : IVec S8x3x512x512 1 := andi main_v44 main_v54
  let main_v56 : FVec F S8x3x512x512 .f32 := Host.absf main_v15
  let main_cst_8 : FVec F S_ .f32 := constant S_ .f32 0x3F39FEB1#32
  let main_v57 : FVec F S8x3x512x512 .f32 := broadcastInDim S8x3x512x512 ![] bcast_S_S8x3x512x512 main_cst_8
  let main_v58 : FVec F S8x3x512x512 .f32 := mulf main_v56 main_v57
  let main_v59 : FVec F S8x3x512x512 .f32 := Host.absf main_v30
  let main_v60 : FVec F S8x3x512x512 .f32 := subf main_v58 main_v59
  fn_part3 (F := F) main_v15 main_v30 main_v55 main_v60

def fn_part1 {F : FTy → Type} [FloatOps F] (main_arg0 : FVec F S8x3x512x512 .f32) (main_v0 : FVec F S8x3x514x514 .f32) (main_v15 : FVec F S8x3x512x512 .f32) (main_v18 : FVec F S8x3x512x512 .f32) (main_v19 : FVec F S8x3x512x512 .f32) (main_cst_1 : FVec F S_ .f32) : IVec S8x3x512x512 1 :=
  let main_v20 : FVec F S8x3x512x512 .f32 := broadcastInDim S8x3x512x512 ![] bcast_S_S8x3x512x512 main_cst_1
  let main_v21 : FVec F S8x3x512x512 .f32 := mulf main_v20 main_v19
  let main_v22 : FVec F S8x3x512x512 .f32 := (extractStridedSlice S8x3x512x512 ![0, 0, 2, 1] · slices_S8x3x514x514_S8x3x512x512_0_0_2_1) main_v0
  let main_cst_2 : FVec F S_ .f32 := constant S_ .f32 0x40000000#32
  let main_v23 : FVec F S8x3x512x512 .f32 := broadcastInDim S8x3x512x512 ![] bcast_S_S8x3x512x512 main_cst_2
  let main_v24 : FVec F S8x3x512x512 .f32 := mulf main_v23 main_v22
  let main_v25 : FVec F S8x3x512x512 .f32 := subf main_v21 main_v24
  let main_v26 : FVec F S8x3x512x512 .f32 := addf main_v18 main_v25
  let main_v27 : FVec F S8x3x512x512 .f32 := (extractStridedSlice S8x3x512x512 ![0, 0, 0, 2] · slices_S8x3x514x514_S8x3x512x512_0_0_0_2) main_v0
  let main_v28 : FVec F S8x3x512x512 .f32 := (extractStridedSlice S8x3x512x512 ![0, 0, 2, 2] · slices_S8x3x514x514_S8x3x512x512_0_0_2_2) main_v0
  let main_v29 : FVec F S8x3x512x512 .f32 := subf main_v27 main_v28
  let main_v30 : FVec F S8x3x512x512 .f32 := addf main_v26 main_v29
  let main_v31 : FVec F S8x3x512x512 .f32 := Host.absf main_arg0
  let main_cst_3 : FVec F S_ .f32 := constant S_ .f32 0x7F800000#32
  let main_v32 : FVec F S8x3x512x512 .f32 := broadcastInDim S8x3x512x512 ![] bcast_S_S8x3x512x512 main_cst_3
  let main_v33 : IVec S8x3x512x512 1 := cmpf .olt main_v31 main_v32
  let main_v34 : FVec F S8x3x512x512 .f32 := Host.absf main_v15
  let main_cst_4 : FVec F S_ .f32 := constant S_ .f32 0x4044F8C4#32
  let main_v35 : FVec F S8x3x512x512 .f32 := broadcastInDim S8x3x512x512 ![] bcast_S_S8x3x512x512 main_cst_4
  let main_v36 : FVec F S8x3x512x512 .f32 := mulf main_v34 main_v35
  let main_v37 : FVec F S8x3x512x512 .f32 := Host.absf main_v30
  let main_v38 : FVec F S8x3x512x512 .f32 := subf main_v36 main_v37
  let main_v39 : FVec F S8x3x512x512 .f32 := Host.absf main_v38
  let main_v40 : FVec F S8x3x512x512 .f32 := Host.absf main_v15
  fn_part2 (F := F) main_v15 main_v30 main_v33 main_v39 main_v40

def fn {F : FTy → Type} [FloatOps F] (main_arg0 : FVec F S8x3x512x512 .f32) : IVec S8x3x512x512 1 :=
  let main_c : IVec S_ 32 := constantI S_ 32 0#32
  let main_v0 : FVec F S8x3x514x514 .f32 := fn_pad (F := F) main_arg0 main_c
  let main_v1 : FVec F S8x3x512x512 .f32 := (extractStridedSlice S8x3x512x512 ![0, 0, 0, 0] · slices_S8x3x514x514_S8x3x512x512_0_0_0_0) main_v0
  let main_v2 : FVec F S8x3x512x512 .f32 := (extractStridedSlice S8x3x512x512 ![0, 0, 0, 2] · slices_S8x3x514x514_S8x3x512x512_0_0_0_2) main_v0
  let main_v3 : FVec F S8x3x512x512 .f32 := subf main_v1 main_v2
  let main_v4 : FVec F S8x3x512x512 .f32 := (extractStridedSlice S8x3x512x512 ![0, 0, 1, 0] · slices_S8x3x514x514_S8x3x512x512_0_0_1_0) main_v0
  let main_cst : FVec F S_ .f32 := constant S_ .f32 0x40000000#32
  let main_v5 : FVec F S8x3x512x512 .f32 := broadcastInDim S8x3x512x512 ![] bcast_S_S8x3x512x512 main_cst
  let main_v6 : FVec F S8x3x512x512 .f32 := mulf main_v5 main_v4
  let main_v7 : FVec F S8x3x512x512 .f32 := (extractStridedSlice S8x3x512x512 ![0, 0, 1, 2] · slices_S8x3x514x514_S8x3x512x512_0_0_1_2) main_v0
  let main_cst_0 : FVec F S_ .f32 := constant S_ .f32 0x40000000#32
  let main_v8 : FVec F S8x3x512x512 .f32 := broadcastInDim S8x3x512x512 ![] bcast_S_S8x3x512x512 main_cst_0
  let main_v9 : FVec F S8x3x512x512 .f32 := mulf main_v8 main_v7
  let main_v10 : FVec F S8x3x512x512 .f32 := subf main_v6 main_v9
  let main_v11 : FVec F S8x3x512x512 .f32 := addf main_v3 main_v10
  let main_v12 : FVec F S8x3x512x512 .f32 := (extractStridedSlice S8x3x512x512 ![0, 0, 2, 0] · slices_S8x3x514x514_S8x3x512x512_0_0_2_0) main_v0
  let main_v13 : FVec F S8x3x512x512 .f32 := (extractStridedSlice S8x3x512x512 ![0, 0, 2, 2] · slices_S8x3x514x514_S8x3x512x512_0_0_2_2) main_v0
  let main_v14 : FVec F S8x3x512x512 .f32 := subf main_v12 main_v13
  let main_v15 : FVec F S8x3x512x512 .f32 := addf main_v11 main_v14
  let main_v16 : FVec F S8x3x512x512 .f32 := (extractStridedSlice S8x3x512x512 ![0, 0, 0, 0] · slices_S8x3x514x514_S8x3x512x512_0_0_0_0) main_v0
  let main_v17 : FVec F S8x3x512x512 .f32 := (extractStridedSlice S8x3x512x512 ![0, 0, 2, 0] · slices_S8x3x514x514_S8x3x512x512_0_0_2_0) main_v0
  let main_v18 : FVec F S8x3x512x512 .f32 := subf main_v16 main_v17
  let main_v19 : FVec F S8x3x512x512 .f32 := (extractStridedSlice S8x3x512x512 ![0, 0, 0, 1] · slices_S8x3x514x514_S8x3x512x512_0_0_0_1) main_v0
  let main_cst_1 : FVec F S_ .f32 := constant S_ .f32 0x40000000#32
  fn_part1 (F := F) main_arg0 main_v0 main_v15 main_v18 main_v19 main_cst_1
-- ==== Kernel.lean ====
abbrev S8x3x512x512 : Shape := ⟨4, ![8, 3, 512, 512]⟩
abbrev S8x3x64x8x512 : Shape := ⟨5, ![8, 3, 64, 8, 512]⟩
abbrev S8x30x64x64 : Shape := ⟨4, ![8, 30, 64, 64]⟩
abbrev S8x3x64x64 : Shape := ⟨4, ![8, 3, 64, 64]⟩
abbrev S1x10x64x64 : Shape := ⟨4, ![1, 10, 64, 64]⟩
abbrev S1x1x64x64 : Shape := ⟨4, ![1, 1, 64, 64]⟩
abbrev S2x8x64x512 : Shape := ⟨4, ![2, 8, 64, 512]⟩
abbrev S2 : Shape := ⟨1, ![2]⟩
abbrev S1x512 : Shape := ⟨2, ![1, 512]⟩
abbrev S64x1 : Shape := ⟨2, ![64, 1]⟩
abbrev S1 : Shape := ⟨1, ![1]⟩
abbrev S_ : Shape := ⟨0, ![]⟩
abbrev S1x1x64x512 : Shape := ⟨4, ![1, 1, 64, 512]⟩
abbrev S64x512 : Shape := ⟨2, ![64, 512]⟩
abbrev S1x1x64x1x512 : Shape := ⟨5, ![1, 1, 64, 1, 512]⟩
abbrev S63x512 : Shape := ⟨2, ![63, 512]⟩
abbrev S64x511 : Shape := ⟨2, ![64, 511]⟩
abbrev S704x512 : Shape := ⟨2, ![704, 512]⟩
abbrev S512x64 : Shape := ⟨2, ![512, 64]⟩
abbrev S704x64 : Shape := ⟨2, ![704, 64]⟩
abbrev S64x64 : Shape := ⟨2, ![64, 64]⟩
abbrev S8x33x64x64 : Shape := ⟨4, ![8, 33, 64, 64]⟩

abbrev nBuf : Space → Nat
  | .hbm => 5
  | .vmem => 5
  | .smem => 0
  | _ => 0

abbrev bufTy : (tb : Table) → Fin (tcTables nBuf tb) → BufTy
  | .hbm, ⟨0, _⟩ => ⟨S8x3x512x512, .f32⟩
  | .hbm, ⟨1, _⟩ => ⟨S8x3x64x8x512, .f32⟩
  | .hbm, ⟨2, _⟩ => ⟨S8x30x64x64, .f32⟩
  | .hbm, ⟨3, _⟩ => ⟨S8x3x64x64, .f32⟩
  | .hbm, ⟨4, _⟩ => ⟨S8x33x64x64, .f32⟩
  | .local _ .vmem, ⟨0, _⟩ => ⟨S1x10x64x64, .f32⟩
  | .local _ .vmem, ⟨1, _⟩ => ⟨S1x10x64x64, .f32⟩
  | .local _ .vmem, ⟨2, _⟩ => ⟨S1x1x64x64, .f32⟩
  | .local _ .vmem, ⟨3, _⟩ => ⟨S1x1x64x64, .f32⟩
  | .local _ .vmem, ⟨4, _⟩ => ⟨S2x8x64x512, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c0_i32 : BitVec 32 := 0#32
  let v5 : BitVec 1 := Scalar.cmpi .eq v3 c0_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  ![v4.toNat]
def k0_off2 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c0_i32_549 : BitVec 32 := 0#32
  let c0_i32_550 : BitVec 32 := 0#32
  let c0_i32_551 : BitVec 32 := 0#32
  ![v4.toNat, 0, 0, 0]
def k0_off3 (i : grid0.Coords) : Fin 5 → Nat :=
  let arg0 : BitVec 32 := BitVec.ofNat 32 (i 0).val
  let arg1 : BitVec 32 := BitVec.ofNat 32 (i 1).val
  let c0_i32_552 : BitVec 32 := 0#32
  let c0_i32_548 : BitVec 32 := 0#32
  let c0_i32_553 : BitVec 32 := 0#32
  ![arg0.toNat, arg1.toNat, 0, 0, 0]
def k0_off4 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c1_i32_555 : BitVec 32 := 1#32
  let c0_i32_556 : BitVec 32 := 0#32
  let c0_i32_557 : BitVec 32 := 0#32
  ![v4.toNat, 1, 0, 0]
def k0_off5 (i : grid0.Coords) : Fin 5 → Nat :=
  let arg0 : BitVec 32 := BitVec.ofNat 32 (i 0).val
  let arg1 : BitVec 32 := BitVec.ofNat 32 (i 1).val
  let c0_i32_558 : BitVec 32 := 0#32
  let c1_i32_554 : BitVec 32 := 1#32
  let c0_i32_559 : BitVec 32 := 0#32
  ![arg0.toNat, arg1.toNat, 0, 1, 0]
def k0_off6 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c2_i32_561 : BitVec 32 := 2#32
  let c0_i32_562 : BitVec 32 := 0#32
  let c0_i32_563 : BitVec 32 := 0#32
  ![v4.toNat, 2, 0, 0]
def k0_off7 (i : grid0.Coords) : Fin 5 → Nat :=
  let arg0 : BitVec 32 := BitVec.ofNat 32 (i 0).val
  let arg1 : BitVec 32 := BitVec.ofNat 32 (i 1).val
  let c0_i32_564 : BitVec 32 := 0#32
  let c2_i32_560 : BitVec 32 := 2#32
  let c0_i32_565 : BitVec 32 := 0#32
  ![arg0.toNat, arg1.toNat, 0, 2, 0]
def k0_off8 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c3_i32_567 : BitVec 32 := 3#32
  let c0_i32_568 : BitVec 32 := 0#32
  let c0_i32_569 : BitVec 32 := 0#32
  ![v4.toNat, 3, 0, 0]
def k0_off9 (i : grid0.Coords) : Fin 5 → Nat :=
  let arg0 : BitVec 32 := BitVec.ofNat 32 (i 0).val
  let arg1 : BitVec 32 := BitVec.ofNat 32 (i 1).val
  let c0_i32_570 : BitVec 32 := 0#32
  let c3_i32_566 : BitVec 32 := 3#32
  let c0_i32_571 : BitVec 32 := 0#32
  ![arg0.toNat, arg1.toNat, 0, 3, 0]
def k0_off10 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c4_i32_573 : BitVec 32 := 4#32
  let c0_i32_574 : BitVec 32 := 0#32
  let c0_i32_575 : BitVec 32 := 0#32
  ![v4.toNat, 4, 0, 0]
def k0_off11 (i : grid0.Coords) : Fin 5 → Nat :=
  let arg0 : BitVec 32 := BitVec.ofNat 32 (i 0).val
  let arg1 : BitVec 32 := BitVec.ofNat 32 (i 1).val
  let c0_i32_576 : BitVec 32 := 0#32
  let c4_i32_572 : BitVec 32 := 4#32
  let c0_i32_577 : BitVec 32 := 0#32
  ![arg0.toNat, arg1.toNat, 0, 4, 0]
def k0_off12 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c5_i32_579 : BitVec 32 := 5#32
  let c0_i32_580 : BitVec 32 := 0#32
  let c0_i32_581 : BitVec 32 := 0#32
  ![v4.toNat, 5, 0, 0]
def k0_off13 (i : grid0.Coords) : Fin 5 → Nat :=
  let arg0 : BitVec 32 := BitVec.ofNat 32 (i 0).val
  let arg1 : BitVec 32 := BitVec.ofNat 32 (i 1).val
  let c0_i32_582 : BitVec 32 := 0#32
  let c5_i32_578 : BitVec 32 := 5#32
  let c0_i32_583 : BitVec 32 := 0#32
  ![arg0.toNat, arg1.toNat, 0, 5, 0]
def k0_off14 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c6_i32_585 : BitVec 32 := 6#32
  let c0_i32_586 : BitVec 32 := 0#32
  let c0_i32_587 : BitVec 32 := 0#32
  ![v4.toNat, 6, 0, 0]
def k0_off15 (i : grid0.Coords) : Fin 5 → Nat :=
  let arg0 : BitVec 32 := BitVec.ofNat 32 (i 0).val
  let arg1 : BitVec 32 := BitVec.ofNat 32 (i 1).val
  let c0_i32_588 : BitVec 32 := 0#32
  let c6_i32_584 : BitVec 32 := 6#32
  let c0_i32_589 : BitVec 32 := 0#32
  ![arg0.toNat, arg1.toNat, 0, 6, 0]
def k0_off16 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c7_i32_591 : BitVec 32 := 7#32
  let c0_i32_592 : BitVec 32 := 0#32
  let c0_i32_593 : BitVec 32 := 0#32
  ![v4.toNat, 7, 0, 0]
def k0_off17 (i : grid0.Coords) : Fin 5 → Nat :=
  let arg0 : BitVec 32 := BitVec.ofNat 32 (i 0).val
  let arg1 : BitVec 32 := BitVec.ofNat 32 (i 1).val
  let c0_i32_594 : BitVec 32 := 0#32
  let c7_i32_590 : BitVec 32 := 7#32
  let c0_i32_595 : BitVec 32 := 0#32
  ![arg0.toNat, arg1.toNat, 0, 7, 0]
def k0_cond2 (i : grid0.Coords) : BitVec 1 :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c1_i32 : BitVec 32 := 1#32
  let v8 : BitVec 32 := Scalar.addi v3 c1_i32
  let c24_i32 : BitVec 32 := 24#32
  let v9 : BitVec 1 := Scalar.cmpi .slt v8 c24_i32
  let v10 : BitVec 32 := Scalar.extui v9
  let c0_i32_2 : BitVec 32 := 0#32
  let v11 : BitVec 1 := Scalar.cmpi .ne v10 c0_i32_2
  v11

def k0_off18 (i : grid0.Coords) : Fin 1 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  ![v1557.toNat]
def k0_off19 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c0_i32_557 : BitVec 32 := 0#32
  let c0_i32_558 : BitVec 32 := 0#32
  let c0_i32_559 : BitVec 32 := 0#32
  ![v1557.toNat, 0, 0, 0]
def k0_off20 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_560 : BitVec 32 := 0#32
  let c0_i32_556 : BitVec 32 := 0#32
  let c0_i32_561 : BitVec 32 := 0#32
  ![v1556.toNat, v1552.toNat, 0, 0, 0]
def k0_off21 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c1_i32_563 : BitVec 32 := 1#32
  let c0_i32_564 : BitVec 32 := 0#32
  let c0_i32_565 : BitVec 32 := 0#32
  ![v1557.toNat, 1, 0, 0]
def k0_off22 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_566 : BitVec 32 := 0#32
  let c1_i32_562 : BitVec 32 := 1#32
  let c0_i32_567 : BitVec 32 := 0#32
  ![v1556.toNat, v1552.toNat, 0, 1, 0]
def k0_off23 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c2_i32_569 : BitVec 32 := 2#32
  let c0_i32_570 : BitVec 32 := 0#32
  let c0_i32_571 : BitVec 32 := 0#32
  ![v1557.toNat, 2, 0, 0]
def k0_off24 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_572 : BitVec 32 := 0#32
  let c2_i32_568 : BitVec 32 := 2#32
  let c0_i32_573 : BitVec 32 := 0#32
  ![v1556.toNat, v1552.toNat, 0, 2, 0]
def k0_off25 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c3_i32_575 : BitVec 32 := 3#32
  let c0_i32_576 : BitVec 32 := 0#32
  let c0_i32_577 : BitVec 32 := 0#32
  ![v1557.toNat, 3, 0, 0]
def k0_off26 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_578 : BitVec 32 := 0#32
  let c3_i32_574 : BitVec 32 := 3#32
  let c0_i32_579 : BitVec 32 := 0#32
  ![v1556.toNat, v1552.toNat, 0, 3, 0]
def k0_off27 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c4_i32_581 : BitVec 32 := 4#32
  let c0_i32_582 : BitVec 32 := 0#32
  let c0_i32_583 : BitVec 32 := 0#32
  ![v1557.toNat, 4, 0, 0]
def k0_off28 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_584 : BitVec 32 := 0#32
  let c4_i32_580 : BitVec 32 := 4#32
  let c0_i32_585 : BitVec 32 := 0#32
  ![v1556.toNat, v1552.toNat, 0, 4, 0]
def k0_off29 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c5_i32_587 : BitVec 32 := 5#32
  let c0_i32_588 : BitVec 32 := 0#32
  let c0_i32_589 : BitVec 32 := 0#32
  ![v1557.toNat, 5, 0, 0]
def k0_off30 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_590 : BitVec 32 := 0#32
  let c5_i32_586 : BitVec 32 := 5#32
  let c0_i32_591 : BitVec 32 := 0#32
  ![v1556.toNat, v1552.toNat, 0, 5, 0]
def k0_off31 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c6_i32_593 : BitVec 32 := 6#32
  let c0_i32_594 : BitVec 32 := 0#32
  let c0_i32_595 : BitVec 32 := 0#32
  ![v1557.toNat, 6, 0, 0]
def k0_off32 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_596 : BitVec 32 := 0#32
  let c6_i32_592 : BitVec 32 := 6#32
  let c0_i32_597 : BitVec 32 := 0#32
  ![v1556.toNat, v1552.toNat, 0, 6, 0]
def k0_off33 (i : grid0.Coords) : Fin 4 → Nat :=
  let c1_i32_555 : BitVec 32 := 1#32
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v1557 : BitVec 32 := Scalar.subi c1_i32_555 v4
  let c7_i32_599 : BitVec 32 := 7#32
  let c0_i32_600 : BitVec 32 := 0#32
  let c0_i32_601 : BitVec 32 := 0#32
  ![v1557.toNat, 7, 0, 0]
def k0_off34 (i : grid0.Coords) : Fin 5 → Nat :=
  let arg1 : BitVec 32 := BitVec.ofNat 32 (i 1).val
  let c1_i32_552 : BitVec 32 := 1#32
  let v1553 : BitVec 32 := Scalar.addi arg1 c1_i32_552
  let c3_i32_553 : BitVec 32 := 3#32
  let v1554 : BitVec 1 := Scalar.cmpi .eq v1553 c3_i32_553
  let arg0 : BitVec 32 := BitVec.ofNat 32 (i 0).val
  let c1_i32_554 : BitVec 32 := 1#32
  let v1555 : BitVec 32 := Scalar.addi arg0 c1_i32_554
  let v1556 : BitVec 32 := Scalar.select v1554 v1555 arg0
  let c1_i32_548 : BitVec 32 := 1#32
  let v1549 : BitVec 32 := Scalar.addi arg1 c1_i32_548
  let c3_i32_549 : BitVec 32 := 3#32
  let v1550 : BitVec 1 := Scalar.cmpi .eq v1549 c3_i32_549
  let c0_i32_551 : BitVec 32 := 0#32
  let c1_i32_550 : BitVec 32 := 1#32
  let v1551 : BitVec 32 := Scalar.addi arg1 c1_i32_550
  let v1552 : BitVec 32 := Scalar.select v1550 c0_i32_551 v1551
  let c0_i32_602 : BitVec 32 := 0#32
  let c7_i32_598 : BitVec 32 := 7#32
  let c0_i32_603 : BitVec 32 := 0#32
  ![v1556.toNat, v1552.toNat, 0, 7, 0]
def k0_off35 (i : grid0.Coords) : Fin 1 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  ![v4.toNat]
def k0_off36 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c0_i32_4 : BitVec 32 := 0#32
  let c0_i32_5 : BitVec 32 := 0#32
  let c0_i32_6 : BitVec 32 := 0#32
  ![v4.toNat, 0, 0, 0]
def k0_off37 (i : grid0.Coords) : Fin 5 → Nat :=
  let arg0 : BitVec 32 := BitVec.ofNat 32 (i 0).val
  let arg1 : BitVec 32 := BitVec.ofNat 32 (i 1).val
  let c0_i32_7 : BitVec 32 := 0#32
  let c0_i32_3 : BitVec 32 := 0#32
  let c0_i32_8 : BitVec 32 := 0#32
  ![arg0.toNat, arg1.toNat, 0, 0, 0]
def k0_off38 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c1_i32_10 : BitVec 32 := 1#32
  let c0_i32_11 : BitVec 32 := 0#32
  let c0_i32_12 : BitVec 32 := 0#32
  ![v4.toNat, 1, 0, 0]
def k0_off39 (i : grid0.Coords) : Fin 5 → Nat :=
  let arg0 : BitVec 32 := BitVec.ofNat 32 (i 0).val
  let arg1 : BitVec 32 := BitVec.ofNat 32 (i 1).val
  let c0_i32_13 : BitVec 32 := 0#32
  let c1_i32_9 : BitVec 32 := 1#32
  let c0_i32_14 : BitVec 32 := 0#32
  ![arg0.toNat, arg1.toNat, 0, 1, 0]
def k0_off40 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c2_i32_16 : BitVec 32 := 2#32
  let c0_i32_17 : BitVec 32 := 0#32
  let c0_i32_18 : BitVec 32 := 0#32
  ![v4.toNat, 2, 0, 0]
def k0_off41 (i : grid0.Coords) : Fin 5 → Nat :=
  let arg0 : BitVec 32 := BitVec.ofNat 32 (i 0).val
  let arg1 : BitVec 32 := BitVec.ofNat 32 (i 1).val
  let c0_i32_19 : BitVec 32 := 0#32
  let c2_i32_15 : BitVec 32 := 2#32
  let c0_i32_20 : BitVec 32 := 0#32
  ![arg0.toNat, arg1.toNat, 0, 2, 0]
def k0_off42 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c3_i32_22 : BitVec 32 := 3#32
  let c0_i32_23 : BitVec 32 := 0#32
  let c0_i32_24 : BitVec 32 := 0#32
  ![v4.toNat, 3, 0, 0]
def k0_off43 (i : grid0.Coords) : Fin 5 → Nat :=
  let arg0 : BitVec 32 := BitVec.ofNat 32 (i 0).val
  let arg1 : BitVec 32 := BitVec.ofNat 32 (i 1).val
  let c0_i32_25 : BitVec 32 := 0#32
  let c3_i32_21 : BitVec 32 := 3#32
  let c0_i32_26 : BitVec 32 := 0#32
  ![arg0.toNat, arg1.toNat, 0, 3, 0]
def k0_off44 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c4_i32_27 : BitVec 32 := 4#32
  let c0_i32_28 : BitVec 32 := 0#32
  let c0_i32_29 : BitVec 32 := 0#32
  ![v4.toNat, 4, 0, 0]
def k0_off45 (i : grid0.Coords) : Fin 5 → Nat :=
  let arg0 : BitVec 32 := BitVec.ofNat 32 (i 0).val
  let arg1 : BitVec 32 := BitVec.ofNat 32 (i 1).val
  let c0_i32_30 : BitVec 32 := 0#32
  let c4_i32 : BitVec 32 := 4#32
  let c0_i32_31 : BitVec 32 := 0#32
  ![arg0.toNat, arg1.toNat, 0, 4, 0]
def k0_off46 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c5_i32_32 : BitVec 32 := 5#32
  let c0_i32_33 : BitVec 32 := 0#32
  let c0_i32_34 : BitVec 32 := 0#32
  ![v4.toNat, 5, 0, 0]
def k0_off47 (i : grid0.Coords) : Fin 5 → Nat :=
  let arg0 : BitVec 32 := BitVec.ofNat 32 (i 0).val
  let arg1 : BitVec 32 := BitVec.ofNat 32 (i 1).val
  let c0_i32_35 : BitVec 32 := 0#32
  let c5_i32 : BitVec 32 := 5#32
  let c0_i32_36 : BitVec 32 := 0#32
  ![arg0.toNat, arg1.toNat, 0, 5, 0]
def k0_off48 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c6_i32_37 : BitVec 32 := 6#32
  let c0_i32_38 : BitVec 32 := 0#32
  let c0_i32_39 : BitVec 32 := 0#32
  ![v4.toNat, 6, 0, 0]
def k0_off49 (i : grid0.Coords) : Fin 5 → Nat :=
  let arg0 : BitVec 32 := BitVec.ofNat 32 (i 0).val
  let arg1 : BitVec 32 := BitVec.ofNat 32 (i 1).val
  let c0_i32_40 : BitVec 32 := 0#32
  let c6_i32 : BitVec 32 := 6#32
  let c0_i32_41 : BitVec 32 := 0#32
  ![arg0.toNat, arg1.toNat, 0, 6, 0]
def k0_off50 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let c7_i32_42 : BitVec 32 := 7#32
  let c0_i32_43 : BitVec 32 := 0#32
  let c0_i32_44 : BitVec 32 := 0#32
  ![v4.toNat, 7, 0, 0]
def k0_off51 (i : grid0.Coords) : Fin 5 → Nat :=
  let arg0 : BitVec 32 := BitVec.ofNat 32 (i 0).val
  let arg1 : BitVec 32 := BitVec.ofNat 32 (i 1).val
  let c0_i32_45 : BitVec 32 := 0#32
  let c7_i32 : BitVec 32 := 7#32
  let c0_i32_46 : BitVec 32 := 0#32
  ![arg0.toNat, arg1.toNat, 0, 7, 0]
def k0_off52 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v60 : Index := Scalar.indexCast v4
  let c0 : Index := 0#32
  let c0_47 : Index := 0#32
  let c0_48 : Index := 0#32
  ![v60.toNat, 0, 0, 0]
def k0_off53 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v63 : Index := Scalar.indexCast v4
  let c1 : Index := 1#32
  let c0_49 : Index := 0#32
  let c0_50 : Index := 0#32
  ![v63.toNat, 1, 0, 0]
def k0_off54 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v66 : Index := Scalar.indexCast v4
  let c2 : Index := 2#32
  let c0_51 : Index := 0#32
  let c0_52 : Index := 0#32
  ![v66.toNat, 2, 0, 0]
def k0_off55 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v69 : Index := Scalar.indexCast v4
  let c3 : Index := 3#32
  let c0_53 : Index := 0#32
  let c0_54 : Index := 0#32
  ![v69.toNat, 3, 0, 0]
def k0_off56 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v72 : Index := Scalar.indexCast v4
  let c4 : Index := 4#32
  let c0_55 : Index := 0#32
  let c0_56 : Index := 0#32
  ![v72.toNat, 4, 0, 0]
def k0_off57 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v75 : Index := Scalar.indexCast v4
  let c5 : Index := 5#32
  let c0_57 : Index := 0#32
  let c0_58 : Index := 0#32
  ![v75.toNat, 5, 0, 0]
def k0_off58 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v78 : Index := Scalar.indexCast v4
  let c6 : Index := 6#32
  let c0_59 : Index := 0#32
  let c0_60 : Index := 0#32
  ![v78.toNat, 6, 0, 0]
def k0_off59 (i : grid0.Coords) : Fin 4 → Nat :=
  let arg0 : BitVec 32 := BitVec.ofNat 32 (i 0).val
  let c3_i32 : BitVec 32 := 3#32
  let v2 : BitVec 32 := Scalar.muli arg0 c3_i32
  let arg1 : BitVec 32 := BitVec.ofNat 32 (i 1).val
  let v3 : BitVec 32 := Scalar.addi v2 arg1
  let c2_i32 : BitVec 32 := 2#32
  let v4 : BitVec 32 := Scalar.remsi v3 c2_i32
  let v81 : Index := Scalar.indexCast v4
  let c7 : Index := 7#32
  let c0_61 : Index := 0#32
  let c0_62 : Index := 0#32
  ![v81.toNat, 7, 0, 0]
def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x10x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S8x3x512x512 : Shape := ⟨4, ![8, 3, 512, 512]⟩
abbrev S_ : Shape := ⟨0, ![]⟩
abbrev S8x3x514x514 : Shape := ⟨4, ![8, 3, 514, 514]⟩
abbrev S8x3x512x512x1 : Shape := ⟨5, ![8, 3, 512, 512, 1]⟩
abbrev S1x1x1x1x10 : Shape := ⟨5, ![1, 1, 1, 1, 10]⟩
abbrev S8x3x512x512x10 : Shape := ⟨5, ![8, 3, 512, 512, 10]⟩
abbrev S8x3x10x512x512 : Shape := ⟨5, ![8, 3, 10, 512, 512]⟩
abbrev S8x30x512x512 : Shape := ⟨4, ![8, 30, 512, 512]⟩
abbrev S8x30x64x8x64x8 : Shape := ⟨6, ![8, 30, 64, 8, 64, 8]⟩
abbrev S8x30x64x64 : Shape := ⟨4, ![8, 30, 64, 64]⟩
abbrev S8x3x64x8x64x8 : Shape := ⟨6, ![8, 3, 64, 8, 64, 8]⟩
abbrev S8x3x64x64 : Shape := ⟨4, ![8, 3, 64, 64]⟩
abbrev S8x33x64x64 : Shape := ⟨4, ![8, 33, 64, 64]⟩

abbrev nBuf : Space → Nat
  | .hbm => 137
  | .vmem => 0
  | .smem => 0
  | _ => 0

abbrev hbmTy0_0 (i : Nat) : BufTy := match i % 128 with
  | 0 => ⟨S8x3x512x512, .f32⟩
  | 1 => ⟨S_, .i32⟩
  | 2 => ⟨S_, .f32⟩
  | 3 => ⟨S8x3x514x514, .f32⟩
  | 4 => ⟨S8x3x512x512, .f32⟩
  | 5 => ⟨S8x3x512x512, .f32⟩
  | 6 => ⟨S8x3x512x512, .f32⟩
  | 7 => ⟨S8x3x512x512, .f32⟩
  | 8 => ⟨S_, .f32⟩
  | 9 => ⟨S8x3x512x512, .f32⟩
  | 10 => ⟨S8x3x512x512, .f32⟩
  | 11 => ⟨S8x3x512x512, .f32⟩
  | 12 => ⟨S_, .f32⟩
  | 13 => ⟨S8x3x512x512, .f32⟩
  | 14 => ⟨S8x3x512x512, .f32⟩
  | 15 => ⟨S8x3x512x512, .f32⟩
  | 16 => ⟨S8x3x512x512, .f32⟩
  | 17 => ⟨S8x3x512x512, .f32⟩
  | 18 => ⟨S8x3x512x512, .f32⟩
  | 19 => ⟨S8x3x512x512, .f32⟩
  | 20 => ⟨S8x3x512x512, .f32⟩
  | 21 => ⟨S8x3x512x512, .f32⟩
  | 22 => ⟨S8x3x512x512, .f32⟩
  | 23 => ⟨S8x3x512x512, .f32⟩
  | 24 => ⟨S8x3x512x512, .f32⟩
  | 25 => ⟨S_, .f32⟩
  | 26 => ⟨S8x3x512x512, .f32⟩
  | 27 => ⟨S8x3x512x512, .f32⟩
  | 28 => ⟨S8x3x512x512, .f32⟩
  | 29 => ⟨S_, .f32⟩
  | 30 => ⟨S8x3x512x512, .f32⟩
  | 31 => ⟨S8x3x512x512, .f32⟩
  | 32 => ⟨S8x3x512x512, .f32⟩
  | 33 => ⟨S8x3x512x512, .f32⟩
  | 34 => ⟨S8x3x512x512, .f32⟩
  | 35 => ⟨S8x3x512x512, .f32⟩
  | 36 => ⟨S8x3x512x512, .f32⟩
  | 37 => ⟨S8x3x512x512, .f32⟩
  | 38 => ⟨S8x3x512x512, .f32⟩
  | 39 => ⟨S8x3x512x512, .f32⟩
  | 40 => ⟨S8x3x512x512, .f32⟩
  | 41 => ⟨S8x3x512x512, .f32⟩
  | 42 => ⟨S8x3x512x512, .f32⟩
  | 43 => ⟨S_, .f32⟩
  | 44 => ⟨S_, .f32⟩
  | 45 => ⟨S_, .f32⟩
  | 46 => ⟨S_, .f32⟩
  | 47 => ⟨S8x3x512x512, .f32⟩
  | 48 => ⟨S8x3x512x512, .f32⟩
  | 49 => ⟨S_, .f32⟩
  | 50 => ⟨S8x3x512x512, .f32⟩
  | 51 => ⟨S8x3x512x512, .f32⟩
  | 52 => ⟨S8x3x512x512, .f32⟩
  | 53 => ⟨S8x3x512x512, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S8x3x512x512, .i32⟩
  | 61 => ⟨S8x3x512x512, .i32⟩
  | 62 => ⟨S_, .i32⟩
  | 63 => ⟨S8x3x512x512, .i32⟩
  | 64 => ⟨S8x3x512x512, .i1⟩
  | 65 => ⟨S_, .i32⟩
  | 66 => ⟨S8x3x512x512, .i32⟩
  | 67 => ⟨S8x3x512x512, .i1⟩
  | 68 => ⟨S_, .i32⟩
  | 69 => ⟨S_, .i1⟩
  | 70 => ⟨S8x3x512x512, .i1⟩
  | 71 => ⟨S8x3x512x512, .i1⟩
  | 72 => ⟨S8x3x512x512, .i1⟩
  | 73 => ⟨S8x3x512x512, .i32⟩
  | 74 => ⟨S8x3x512x512, .i32⟩
  | 75 => ⟨S8x3x512x512, .i32⟩
  | 76 => ⟨S8x3x512x512, .f32⟩
  | 77 => ⟨S8x3x512x512, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S8x3x512x512, .i32⟩
  | 85 => ⟨S8x3x512x512, .i32⟩
  | 86 => ⟨S_, .i32⟩
  | 87 => ⟨S8x3x512x512, .i32⟩
  | 88 => ⟨S8x3x512x512, .i1⟩
  | 89 => ⟨S_, .i32⟩
  | 90 => ⟨S8x3x512x512, .i32⟩
  | 91 => ⟨S8x3x512x512, .i1⟩
  | 92 => ⟨S_, .i32⟩
  | 93 => ⟨S_, .i1⟩
  | 94 => ⟨S8x3x512x512, .i1⟩
  | 95 => ⟨S8x3x512x512, .i1⟩
  | 96 => ⟨S8x3x512x512, .i1⟩
  | 97 => ⟨S8x3x512x512, .i32⟩
  | 98 => ⟨S8x3x512x512, .i32⟩
  | 99 => ⟨S8x3x512x512, .i32⟩
  | 100 => ⟨S8x3x512x512x1, .i32⟩
  | 101 => ⟨S1x1x1x1x10, .i32⟩
  | 102 => ⟨S8x3x512x512x10, .i32⟩
  | 103 => ⟨S8x3x512x512x10, .i32⟩
  | 104 => ⟨S8x3x512x512x10, .i1⟩
  | 105 => ⟨S8x3x512x512x10, .f32⟩
  | 106 => ⟨S8x3x512x512x1, .i32⟩
  | 107 => ⟨S1x1x1x1x10, .i32⟩
  | 108 => ⟨S8x3x512x512x10, .i32⟩
  | 109 => ⟨S8x3x512x512x10, .i32⟩
  | 110 => ⟨S8x3x512x512x10, .i1⟩
  | 111 => ⟨S8x3x512x512x10, .f32⟩
  | 112 => ⟨S8x3x512x512x1, .f32⟩
  | 113 => ⟨S8x3x512x512x10, .f32⟩
  | 114 => ⟨S8x3x512x512x10, .f32⟩
  | 115 => ⟨S8x3x512x512x1, .f32⟩
  | 116 => ⟨S_, .f32⟩
  | 117 => ⟨S8x3x512x512x1, .f32⟩
  | 118 => ⟨S8x3x512x512x1, .f32⟩
  | 119 => ⟨S8x3x512x512x10, .f32⟩
  | 120 => ⟨S8x3x512x512x10, .f32⟩
  | 121 => ⟨S8x3x512x512x10, .f32⟩
  | 122 => ⟨S8x3x10x512x512, .f32⟩
  | 123 => ⟨S8x30x512x512, .f32⟩
  | 124 => ⟨S8x30x64x8x64x8, .f32⟩
  | 125 => ⟨S_, .f32⟩
  | 126 => ⟨S8x30x64x64, .f32⟩
  | 127 => ⟨S_, .f32⟩
  | _ => ⟨S8x3x512x512, .f32⟩

abbrev hbmTy0_1 (i : Nat) : BufTy := match i % 128 with
  | 0 => ⟨S8x30x64x64, .f32⟩
  | 1 => ⟨S8x30x64x64, .f32⟩
  | 2 => ⟨S8x3x64x8x64x8, .f32⟩
  | 3 => ⟨S_, .f32⟩
  | 4 => ⟨S8x3x64x64, .f32⟩
  | 5 => ⟨S_, .f32⟩
  | 6 => ⟨S8x3x64x64, .f32⟩
  | 7 => ⟨S8x3x64x64, .f32⟩
  | 8 => ⟨S8x33x64x64, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_7 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v47 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v48 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_8 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_9 : Ref sig .tc := ⟨.hbm, 125, rfl⟩
abbrev main_v62 : Ref sig .tc := ⟨.hbm, 126, rfl⟩
abbrev main_cst_10 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_11 : Ref sig .tc := ⟨.hbm, 131, rfl⟩
abbrev main_v66 : Ref sig .tc := ⟨.hbm, 132, rfl⟩
abbrev main_cst_12 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩

abbrev nD : Nat := 1
abbrev τ : Topo := Topo.v7x

variable {F : FTy → Type} [FloatOps F]
-- ==== Proof.Ring.lean ====
/-
  The ring of the kernel: its scratch is two slots, each made of eight parts (one per slab of a block),
  and block `b` (image `b / 3`, plane `b % 3`) is brought into slot `b % 2` by eight transfers counted on the slot's
  semaphore cell.  Here the slots, blocks and cells get names, the launch's pieces are split into the ring and joined
  again, and the offsets the program computes are identified with those names.  Everything is stated over the slot `s`,
  the slab `w` and the block `b`.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Batch
public import Idealize.ShloMosaic.Lib.Ring.WriteBehind
public import Idealize.ShloMosaic.Lib.ShareLeaves
public import Idealize.ShloMosaic.Lib.Tactic
public import Idealize.ShloMosaic.Lib.WordCmp

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's two conditions -/

/-- The body starts the first block: at the first point only. -/
abbrev first (i : grid0.Coords) : Prop := k0_cond1 i = 1#1
theorem first_iff : ∀ t : Fin cfg0.N, first (grid0.coords t) ↔ t.val % 24 = 0 :=
  (by decide +kernel : ∀ t : Fin grid0.N, first (grid0.coords t) ↔ t.val % 24 = 0)
/-- The body starts the next block: at every point but the last. -/
abbrev more (i : grid0.Coords) : Prop := k0_cond2 i = 1#1
theorem more_iff : ∀ t : Fin cfg0.N, more (grid0.coords t) ↔ t.val < 23 :=
  (by decide +kernel : ∀ t : Fin grid0.N, more (grid0.coords t) ↔ t.val < 23)

/-! ## The body's operands -/

abbrev histView : View sig .tc .vmem S1x10x64x64 .f32 := (Memref.whole cc0_stg0_0 : Memref sig .tc .vmem S1x10x64x64 .f32).view
abbrev poolView : View sig .tc .vmem S1x1x64x64 .f32 := (Memref.whole cc0_stg1_0 : Memref sig .tc .vmem S1x1x64x64 .f32).view
/-- Each output's staging memref at point `t`, and its wholeness. -/
abbrev histM (t : Fin cfg0.N) : Memref sig .tc .vmem S1x10x64x64 .f32 := win0_0.stage (cfg0.slots t 0)
abbrev histW (t : Fin cfg0.N) : (histM t).IsWhole := hstage0_0 ((cfg0.slots t 0).cast nbuf0_0)
abbrev poolM (t : Fin cfg0.N) : Memref sig .tc .vmem S1x1x64x64 .f32 := win0_1.stage (cfg0.slots t 1)
abbrev poolW (t : Fin cfg0.N) : (poolM t).IsWhole := hstage0_1 ((cfg0.slots t 1).cast nbuf0_1)
/-- The scratch and the image array, whole. -/
abbrev scM : Memref sig .tc .vmem S2x8x64x512 .f32 := Memref.whole cc0_scratch0
abbrev xM : Memref sig .tc .hbm S8x3x64x8x512 .f32 := Memref.whole main_v0
/-- A memref's buffer on core `c`: its contents, and it held whole at `f`. -/
abbrev MBuf (c : Dev nD) {sp : Space} {S : Shape} {e : EltTy} (M : Memref sig .tc sp S e) : Type := Buf (Elt F) (M.view.loc (c : Thread nD τ))
abbrev mPt (c : Dev nD) {sp : Space} {S : Shape} {e : EltTy} (M : Memref sig .tc sp S e) (f : MBuf (F := F) c M) : sProp 𝕄 :=
  M.view.loc (c : Thread nD τ) ↦{fullShare} f

/-- The kernel's own semaphore cells: one per slot. -/
abbrev ownCells : Fin 2 → SemLoc sig := fun j => (![SemLoc.dma 4, SemLoc.dma 5] : Fin 2 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 4) 0 ∗ semVal ((c : Thread nD τ), SemLoc.dma 5) 0) := by
  rw [Pipeline.ownSems0_eq_of_list c ownCells [0, 1] (by decide) (by decide)]; rfl
/-- The array the body reads from HBM itself. -/
def H0 : Finset (Ref sig .tc) := {main_v0}
theorem H0_sub : H0 ⊆ Pipeline.restRefs sig spec0 := by decide
/-- The lines after the region do not touch it. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl
  all_goals intro b hb; simp only [H0, Finset.mem_insert, Finset.mem_singleton] at hb
  all_goals rcases hb with rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
theorem hbm_eq (c : Dev nD) :
    (bigSep H0 (fun b => ((c : Thread nD τ).loc b) ↦{fullShare} V m c b) : sProp 𝕄) = iprop(mPt c xM (V m c main_v0)) := by
  rw [BI.bigSep_eq_bigSepL_of_eq [main_v0] (by decide) (by decide)]; rfl
/-- What the launch hands the body: scratch, generator register, own cells, image array. -/
theorem PhiD_eq (c : Dev nD) :
    (Pipeline.ΦD ownCells spec0 H0 (V m) c : sProp 𝕄)
      = iprop(iprop((∃ d, owns (c : Thread nD τ) scM fullShare d)) ∗ (∃ r, prngReg c r) ∗ iprop(semVal ((c : Thread nD τ), SemLoc.dma 4) 0 ∗ semVal ((c : Thread nD τ), SemLoc.dma 5) 0) ∗ iprop(mPt c xM (V m c main_v0))) := by
  rw [Pipeline.ΦD_eq, scopedRest0_eq, ownCells_eq, hbm_eq]; simp only [scM, owns_whole]; try rfl

/-! ## Slots, blocks and cells -/

instance : NeZero grid0.N := ⟨by rw [N_0]; decide⟩
theorem inb_win (s : Fin 2) (w : Fin 8) : ∀ a, (![s.val, w.val, 0, 0] : Fin 4 → Nat) a + S1x1x64x512.size a ≤ S2x8x64x512.size a := by
  have := s.isLt; have := w.isLt; intro a; fin_cases a <;> simp <;> omega
theorem inb_cell (s : Fin 2) : ∀ a, (![s.val] : Fin 1 → Nat) a + S1.size a ≤ S2.size a := by
  have := s.isLt; intro a; fin_cases a <;> simp <;> omega
theorem inb_src (b : Fin 24) (w : Fin 8) : ∀ a, (![(b.val / 3), (b.val % 3), 0, w.val, 0] : Fin 5 → Nat) a + S1x1x64x1x512.size a ≤ S8x3x64x8x512.size a := by
  have := b.isLt; have := w.isLt; intro a; fin_cases a <;> simp <;> omega
/-- Part `w` of slot `s`. -/
def rwin (s : Fin 2) (w : Fin 8) : Memref sig .tc .vmem S64x512 .f32 :=
  (scM.slice (Rect.unit (s := S2x8x64x512) ![s.val, w.val, 0, 0] S1x1x64x512.size (inb_win s w)) (fun _ => rfl)).squeeze S64x512 squeezes_S1x1x64x512_S64x512
/-- Slab `w` of block `b` of the image array. -/
def srcB (b : Fin 24) (w : Fin 8) : Memref sig .tc .hbm S64x512 .f32 :=
  (xM.slice (Rect.unit (s := S8x3x64x8x512) ![(b.val / 3), (b.val % 3), 0, w.val, 0] S1x1x64x1x512.size (inb_src b w)) (fun _ => rfl)).squeeze S64x512 squeezes_S1x1x64x1x512_S64x512
/-- Slot `s`'s semaphore cell. -/
def cellA (s : Fin 2) : DmaSems sig S_ :=
  (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

/-! ## What is held of them -/

section Held
variable (c : Dev nD) (W0 : MBuf (F := F) c xM)

/-- The sixteen (slot, part) pairs, numbered. -/
def copyNo : Fin 2 × Fin 8 ≃ Fin (2 ^ 4) := finProdFinEquiv.trans (finCongr (by decide))
/-- The share of the image array lent to part `w` of slot `s`: one of sixteen equal ones. -/
abbrev qs (s : Fin 2) (w : Fin 8) : PosShare TreeShare := ShareLeaves.leaf 4 fullShare (copyNo (s, w))
/-- Part `w` of slot `s` held at `e`. -/
abbrev winP (s : Fin 2) (w : Fin 8) (e : MBuf (F := F) c scM) : sProp 𝕄 := (rwin s w).view.loc (c : Thread nD τ) ↦[(rwin s w).view.set]{fullShare} e
abbrev cellP (s : Fin 2) : sProp 𝕄 := semVal ((c : Thread nD τ), cellR s) 0
/-- Of the lent share of the image array: block `b`'s slab `w`, the rest, and the whole of it. -/
abbrev srcP (s : Fin 2) (w : Fin 8) (b : Fin 24) : sProp 𝕄 := (srcB b w).view.loc (c : Thread nD τ) ↦[(srcB b w).view.set]{qs s w} W0
def restP (s : Fin 2) (w : Fin 8) (b : Fin 24) : sProp 𝕄 := ((c : Thread nD τ).loc main_v0) ↦[Finset.univ \ (srcB b w).view.set]{qs s w} W0
abbrev wholeP (s : Fin 2) (w : Fin 8) : sProp 𝕄 := ((c : Thread nD τ).loc main_v0) ↦[Finset.univ]{qs s w} W0
/-- Part `w` of slot `s` once slab `w` of block `b` has landed in it. -/
abbrev landed (s : Fin 2) (b : Fin 24) (w : Fin 8) : MBuf (F := F) c scM :=
  (rwin s w).view.writes (Elt F) (rwin s w).view.junk [⟨Rect.whole S64x512, ReadAs.same.apply ((srcB b w).view.read (Elt F) W0)⟩]
/-- What transfer `w` of block `b` into slot `s` delivers. -/
abbrev winD1 (s : Fin 2) (b : Fin 24) (w : Fin 8) : sProp 𝕄 := iprop(winP c s w (landed c W0 s b w) ∗ srcP c W0 s w b)
abbrev winD (s : Fin 2) (b : Fin 24) : Fin 8 → sProp 𝕄 :=
  ![winD1 c W0 s b 0, winD1 c W0 s b 1, winD1 c W0 s b 2, winD1 c W0 s b 3, winD1 c W0 s b 4, winD1 c W0 s b 5, winD1 c W0 s b 6, winD1 c W0 s b 7]
/-- One transfer's amount on its cell. -/
abbrev NN : ℕ := (rwin 0 0).view.amount (cellR 0)
/-- A family over the eight parts, all held. -/
def all8 (P : Fin 8 → sProp 𝕄) : sProp 𝕄 := iprop(P 0 ∗ P 1 ∗ P 2 ∗ P 3 ∗ P 4 ∗ P 5 ∗ P 6 ∗ P 7)
omit [FloatOps F] in
theorem all8_eq (P : Fin 8 → sProp 𝕄) : all8 P = bigSep Finset.univ P := by
  rw [BI.bigSep_eq_bigSepL_of_eq [0, 1, 2, 3, 4, 5, 6, 7] (by decide) (by decide)]; rfl
/-- The slot, part by part, each at its own contents, with the lent shares; and block `b` in flight into it. -/
abbrev slotP (s : Fin 2) (f : Fin 8 → MBuf (F := F) c scM) : sProp 𝕄 := all8 fun w => winP c s w (f w)
abbrev slotW (s : Fin 2) (f : Fin 8 → MBuf (F := F) c scM) : sProp 𝕄 := iprop(slotP c s f ∗ all8 fun w => wholeP c W0 s w)
abbrev flightW (s : Fin 2) (b : Fin 24) (_f : Fin 8 → MBuf (F := F) c scM) : sProp 𝕄 :=
  iprop(Transfers.Batch countersEmb (c : Thread nD τ) (cellR s) default NN (winD c W0 s b) 8 0 ∗ all8 fun w => restP c W0 s w b)
abbrev noHome (b : Fin 24) : sProp 𝕄 := iprop(emp)
abbrev keep (_s : Fin 2) (_b : Fin 24) (f : Fin 8 → MBuf (F := F) c scM) : Fin 8 → MBuf (F := F) c scM := f
/-- The ring before point `k`: both slots free at the start, afterwards block `k` in flight and the other slot free. -/
def ringAt (k : ℕ) : sProp 𝕄 :=
  if k = 0 then Ring.At₀ (cellP c) (slotW c W0) noHome
  else Ring.AtK 1 (cellP c) (slotW c W0) noHome (flightW c W0) (keep c) k

/-- A points-to is storable, whatever the program. -/
theorem storable_pt {nD' : Nat} {τ' : Topo} {sg : RefSig} {Ix' : Type} [DecidableEq Ix'] {Val' : EltTy → Type} {Name' : Type} [DecidableEq Name']
    {U' : Type} [URA U'] {Lvl' : Type} (ℓ : Loc nD' τ' sg) (I : Finset (Idx ℓ)) (q : PosShare TreeShare) (f : Buf Val' ℓ) :
    Storable (upEmb : UEmb _ (MT nD' τ' sg Ix' Val' Name' U' Lvl')) (ℓ ↦[I]{q} f) := inferInstance
theorem storable_winD (s : Fin 2) (b : Fin 24) : ∀ w, Storable (upEmb : UEmb _ 𝕄) (winD (F := F) c W0 s b w) := by
  intro w
  fin_cases w <;> exact @Storable.sep _ _ _ _ _ _ _ _ (storable_pt _ _ _ _) (storable_pt _ _ _ _)
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1

omit [FloatOps F] in
/-- The lent share is block `b`'s slab and the rest of it. -/
theorem src_split (s : Fin 2) (w : Fin 8) (b : Fin 24) : wholeP (F := F) c W0 s w ⊣⊢ iprop(srcP c W0 s w b ∗ restP c W0 s w b) := by
  unfold restP; exact pointsTo_split_subset (Finset.subset_univ _)
omit [FloatOps F] in
/-- The slot's eight lent shares are the slabs of block `b` and the rests of them. -/
theorem srcs_split (s : Fin 2) (b : Fin 24) :
    (all8 fun w => wholeP (F := F) c W0 s w) = iprop((all8 fun w => srcP c W0 s w b) ∗ (all8 fun w => restP c W0 s w b) : sProp 𝕄) := by
  rw [all8_eq, all8_eq, all8_eq]
  exact (BI.bigSep_congr fun w _ => BI.Entails.antisymm (src_split c W0 s w b).1 (src_split c W0 s w b).2).trans
    (BI.bigSep_sep Finset.univ (fun w => srcP (F := F) c W0 s w b) fun w => restP c W0 s w b)
omit [FloatOps F] in
/-- A slot opened for block `b`: its parts, the slabs of `b` and the rests. -/
theorem slot_open (s : Fin 2) (b : Fin 24) (f : Fin 8 → MBuf (F := F) c scM) :
    slotW (F := F) c W0 s f ⊢ iprop(slotP c s f ∗ (all8 fun w => srcP c W0 s w b) ∗ (all8 fun w => restP c W0 s w b) : sProp 𝕄) := by
  rw [slotW, srcs_split c W0 s b]
/-- The waited slot handed back: what the transfers delivered and the rests are the slot at the landed contents with its
    lent shares whole. -/
theorem slot_back (s : Fin 2) (b : Fin 24) :
    iprop((all8 fun w => winP c s w (landed c W0 s b w)) ∗ (all8 fun w => srcP c W0 s w b) ∗ (all8 fun w => restP c W0 s w b) : sProp 𝕄)
      ⊢ slotW (F := F) c W0 s (landed c W0 s b) := by
  rw [slotW, srcs_split c W0 s b]

omit [FloatOps F] in
/-- The image array whole is its sixteen lent shares. -/
theorem whole_split : (mPt c xM W0 : sProp 𝕄)
    = iprop((all8 fun w => wholeP (F := F) c W0 0 w) ∗ all8 fun w => wholeP c W0 1 w) := by
  rw [all8_eq, all8_eq, ← Ring.bigSep_fin2 fun s : Fin 2 => (bigSep Finset.univ fun w : Fin 8 => wholeP (F := F) c W0 s w : sProp 𝕄),
    ← BI.bigSep_univ_prod fun i : Fin 2 × Fin 8 => (wholeP (F := F) c W0 i.1 i.2 : sProp 𝕄)]
  exact (ShareLeaves.pointsTo_leaves Finset.univ W0 4 fullShare).trans (BI.bigSep_univ_equiv copyNo _)

/-! ## The slots' parts are disjoint boxes of the scratch -/

abbrev winOff (i : Fin 2 × Fin 8) : Fin 4 → Nat := ![i.1.val, i.2.val, 0, 0]
theorem inb_winOff (i : Fin 2 × Fin 8) : ∀ a, winOff i a + S1x1x64x512.size a ≤ S2x8x64x512.size a := inb_win i.1 i.2
abbrev winSet (i : Fin 2 × Fin 8) : Finset S2x8x64x512.Idx := (Rect.unit (s := S2x8x64x512) (winOff i) S1x1x64x512.size (inb_winOff i)).set
theorem winSet_eq (s : Fin 2) (w : Fin 8) : (rwin s w).view.set = winSet (s, w) := by
  simp only [rwin, Memref.view_squeeze, View.set_reshape]; exact View.set_slice_whole _ _
def winIx (i : Fin 2 × Fin 8) : Fin 4 → ℕ := ![i.1.val, i.2.val, 0, 0]
def winUn (v : Fin 4 → ℕ) : Fin 2 × Fin 8 := (Fin.ofNat 2 (v 0), Fin.ofNat 8 (v 1))
theorem winUn_left : ∀ i : Fin 2 × Fin 8, winUn (winIx i) = i := by decide +kernel
theorem wins_disjoint (i i' : Fin 2 × Fin 8) (h : i ≠ i') : Disjoint (winSet i) (winSet i') :=
  Ring.boxes_disjoint (s := S2x8x64x512) S1x1x64x512.size winOff inb_winOff winIx
    (fun i a => by fin_cases a <;> simp [winOff, winIx] <;> omega) winUn winUn_left i i' h
/-- The scratch beside the parts, at some contents. -/
abbrev spareSet : Finset S2x8x64x512.Idx := Finset.univ \ Finset.univ.biUnion winSet
abbrev spareP : sProp 𝕄 := iprop(∃ f : Buf (Elt F) ((c : Thread nD τ).loc cc0_scratch0), ((c : Thread nD τ).loc cc0_scratch0) ↦[spareSet]{fullShare} f)
omit [FloatOps F] in
theorem winP_eq (i : Fin 2 × Fin 8) (e : MBuf (F := F) c scM) :
    winP c i.1 i.2 e = (((c : Thread nD τ).loc cc0_scratch0) ↦[winSet i]{fullShare} e : sProp 𝕄) := by
  unfold winP; rw [winSet_eq]; rfl
/-- The sixteen parts, each at some contents, are the two slots, each at some contents per part. -/
theorem slots_eq : (bigSep Finset.univ (fun i : Fin 2 × Fin 8 => iprop(∃ e, winP (F := F) c i.1 i.2 e)) : sProp 𝕄)
    = iprop((∃ f, slotP (F := F) c 0 f) ∗ ∃ f, slotP (F := F) c 1 f) := by
  rw [BI.bigSep_univ_prod, Ring.bigSep_fin2]
  have e : ∀ j : Fin 2, (bigSep Finset.univ (fun w : Fin 8 => iprop(∃ e, winP (F := F) c j w e)) : sProp 𝕄) = iprop(∃ f, slotP (F := F) c j f) := fun j => by
    rw [← Ring.bigSep_exists_pi_eq]
    exact congrArg _ (funext fun f => (all8_eq _).symm)
  rw [e 0, e 1]
theorem slots_in : iprop(∃ d, owns (c : Thread nD τ) scM fullShare d) ⊢ (iprop(((∃ f, slotP (F := F) c 0 f) ∗ ∃ f, slotP (F := F) c 1 f) ∗ spareP c) : sProp 𝕄) := by
  simp only [scM, owns_whole]
  rw [← slots_eq c]
  exact Ring.pieces_split_spare (U := Pipeline.UD sig nD τ) (ℓ := (c : Thread nD τ).loc cc0_scratch0) (q := fullShare) winSet wins_disjoint
    (fun (i : Fin 2 × Fin 8) (e : MBuf (F := F) c scM) => winP c i.1 i.2 e) (winP_eq c)
theorem slots_out : (iprop(((∃ f, slotP (F := F) c 0 f) ∗ ∃ f, slotP (F := F) c 1 f) ∗ spareP c) : sProp 𝕄) ⊢ iprop(∃ d, owns (c : Thread nD τ) scM fullShare d) := by
  simp only [scM, owns_whole]
  rw [← slots_eq c]
  exact Ring.pieces_join_spare (U := Pipeline.UD sig nD τ) (ℓ := (c : Thread nD τ).loc cc0_scratch0) (q := fullShare) winSet wins_disjoint
    (fun (i : Fin 2 × Fin 8) (e : MBuf (F := F) c scM) => winP c i.1 i.2 e) (winP_eq c)

/-- Into the ring: the launch's pieces are the ring before its first point, and the scratch beside the parts. -/
theorem ring_in :
    iprop((∃ d, owns (c : Thread nD τ) scM fullShare d) ∗ (semVal ((c : Thread nD τ), SemLoc.dma 4) 0 ∗ semVal ((c : Thread nD τ), SemLoc.dma 5) 0) ∗ mPt c xM W0)
      ⊢ (iprop(ringAt c W0 0 ∗ spareP c) : sProp 𝕄) := by
  unfold ringAt; rw [if_pos rfl]; unfold Ring.At₀
  rw [Ring.bigSep_fin2, whole_split]
  simp only [Ring.free, cellP_0, cellP_1]
  iintro ⟨HS, ⟨H0, H1⟩, ⟨HR0, HR1⟩⟩
  ihave HS' := (slots_in (F := F) c) $$ HS
  icases HS' with ⟨⟨⟨%d0, HS0⟩, ⟨%d1, HS1⟩⟩, HSp⟩
  isplitl [H0 HS0 HR0 H1 HS1 HR1]
  · iapply Ring.with_homes₀
    isplitl [H0 HS0 HR0]
    · isplitl [H0]; · iexact H0
      iexists d0; isplitl [HS0]; · iexact HS0
      iexact HR0
    · isplitl [H1]; · iexact H1
      iexists d1; isplitl [HS1]; · iexact HS1
      iexact HR1
  iexact HSp
/-- Out of the ring: after the last point those pieces again. -/
theorem ring_out :
    iprop(ringAt c W0 24 ∗ spareP c)
      ⊢ (iprop((∃ d, owns (c : Thread nD τ) scM fullShare d) ∗ (semVal ((c : Thread nD τ), SemLoc.dma 4) 0 ∗ semVal ((c : Thread nD τ), SemLoc.dma 5) 0) ∗ mPt c xM W0) : sProp 𝕄) := by
  unfold ringAt; rw [if_neg (by decide), whole_split]
  iintro ⟨H, HSp⟩
  ihave H' := (Ring.free2_of_AtK_last _ _ _ _ _) $$ H
  simp only [Ring.free, cellP_0, cellP_1]
  icases H' with ⟨-, ⟨H0, ⟨%f0, HS0, HR0⟩⟩, ⟨H1, ⟨%f1, HS1, HR1⟩⟩⟩
  isplitl [HS0 HS1 HSp]
  · iapply (slots_out (F := F) c); isplitl [HS0 HS1]
    · isplitl [HS0]; · iexists f0; iexact HS0
      iexists f1; iexact HS1
    iexact HSp
  isplitl [H0 H1]
  · isplitl [H0]; · iexact H0
    iexact H1
  isplitl [HR0]; · iexact HR0
  iexact HR1

end Held

/-! ## The program's offsets, as slots, blocks and cells

The program computes each offset from the grid point. Each family of eight is decided once over the points; a class says
which slot, slab or block an offset is, so that one lemma renames every slice of a kind. -/

section Names

abbrev co (t : Fin grid0.N) : grid0.Coords := grid0.coords t
/-- The slot of block `t`, the slot of the block after it; and those blocks. -/
abbrev sl0 (t : Fin grid0.N) : Fin 2 := Ring.sl 2 t.val
abbrev sl1 (t : Fin grid0.N) : Fin 2 := Ring.sl 2 (t.val + 1)
abbrev bk0 (t : Fin grid0.N) : Fin 24 := Ring.bk 24 t.val
abbrev bk1 (t : Fin grid0.N) : Fin 24 := Ring.bk 24 (t.val + 1)

set_option synthInstance.maxSize 4096 in
/-- The first block's destinations, -/
theorem dst_first : ∀ t : Fin grid0.N, ∀ w : Fin 8,
    (![k0_off2 (co t), k0_off4 (co t), k0_off6 (co t), k0_off8 (co t), k0_off10 (co t), k0_off12 (co t), k0_off14 (co t), k0_off16 (co t)] : Fin 8 → Fin 4 → ℕ) w
      = ![(sl0 t).val, w.val, 0, 0] := by decide +kernel
set_option synthInstance.maxSize 4096 in
/-- its sources, -/
theorem src_first : ∀ t : Fin grid0.N, ∀ w : Fin 8,
    (![k0_off3 (co t), k0_off5 (co t), k0_off7 (co t), k0_off9 (co t), k0_off11 (co t), k0_off13 (co t), k0_off15 (co t), k0_off17 (co t)] : Fin 8 → Fin 5 → ℕ) w
      = ![(bk0 t).val / 3, (bk0 t).val % 3, 0, w.val, 0] := by decide +kernel
set_option synthInstance.maxSize 4096 in
/-- the next block's destinations, -/
theorem dst_next : ∀ t : Fin grid0.N, ∀ w : Fin 8,
    (![k0_off19 (co t), k0_off21 (co t), k0_off23 (co t), k0_off25 (co t), k0_off27 (co t), k0_off29 (co t), k0_off31 (co t), k0_off33 (co t)] : Fin 8 → Fin 4 → ℕ) w
      = ![(sl1 t).val, w.val, 0, 0] := by decide +kernel
set_option synthInstance.maxSize 4096 in
/-- its sources, -/
theorem src_next : ∀ t : Fin grid0.N, more (co t) → ∀ w : Fin 8,
    (![k0_off20 (co t), k0_off22 (co t), k0_off24 (co t), k0_off26 (co t), k0_off28 (co t), k0_off30 (co t), k0_off32 (co t), k0_off34 (co t)] : Fin 8 → Fin 5 → ℕ) w
      = ![(bk1 t).val / 3, (bk1 t).val % 3, 0, w.val, 0] := by decide +kernel
set_option synthInstance.maxSize 4096 in
/-- the parts waited for, -/
theorem dst_wait : ∀ t : Fin grid0.N, ∀ w : Fin 8,
    (![k0_off36 (co t), k0_off38 (co t), k0_off40 (co t), k0_off42 (co t), k0_off44 (co t), k0_off46 (co t), k0_off48 (co t), k0_off50 (co t)] : Fin 8 → Fin 4 → ℕ) w
      = ![(sl0 t).val, w.val, 0, 0] := by decide +kernel
set_option synthInstance.maxSize 4096 in
/-- the parts loaded, -/
theorem off_load : ∀ t : Fin grid0.N, ∀ w : Fin 8,
    (![k0_off52 (co t), k0_off53 (co t), k0_off54 (co t), k0_off55 (co t), k0_off56 (co t), k0_off57 (co t), k0_off58 (co t), k0_off59 (co t)] : Fin 8 → Fin 4 → ℕ) w
      = ![(sl0 t).val, w.val, 0, 0] := by decide +kernel
set_option synthInstance.maxSize 4096 in
/-- and the cells. -/
theorem off_cell : ∀ t : Fin grid0.N, k0_off1 (co t) = ![(sl0 t).val] ∧ k0_off18 (co t) = ![(sl1 t).val] ∧ k0_off35 (co t) = ![(sl0 t).val] := by decide +kernel

class DstAt (o : Fin 4 → ℕ) (s : outParam (Fin 2)) (w : outParam (Fin 8)) : Prop where
  eq : o = ![s.val, w.val, 0, 0]
class SrcAt (o : Fin 5 → ℕ) (b : outParam (Fin 24)) (w : outParam (Fin 8)) : Prop where
  eq : o = ![b.val / 3, b.val % 3, 0, w.val, 0]
class CellAt (o : Fin 1 → ℕ) (s : outParam (Fin 2)) : Prop where
  eq : o = ![s.val]

variable (t : Fin grid0.N)
instance : DstAt (k0_off2 (co t)) (sl0 t) 0 := ⟨dst_first t 0⟩
instance : DstAt (k0_off4 (co t)) (sl0 t) 1 := ⟨dst_first t 1⟩
instance : DstAt (k0_off6 (co t)) (sl0 t) 2 := ⟨dst_first t 2⟩
instance : DstAt (k0_off8 (co t)) (sl0 t) 3 := ⟨dst_first t 3⟩
instance : DstAt (k0_off10 (co t)) (sl0 t) 4 := ⟨dst_first t 4⟩
instance : DstAt (k0_off12 (co t)) (sl0 t) 5 := ⟨dst_first t 5⟩
instance : DstAt (k0_off14 (co t)) (sl0 t) 6 := ⟨dst_first t 6⟩
instance : DstAt (k0_off16 (co t)) (sl0 t) 7 := ⟨dst_first t 7⟩
instance : DstAt (k0_off19 (co t)) (sl1 t) 0 := ⟨dst_next t 0⟩
instance : DstAt (k0_off21 (co t)) (sl1 t) 1 := ⟨dst_next t 1⟩
instance : DstAt (k0_off23 (co t)) (sl1 t) 2 := ⟨dst_next t 2⟩
instance : DstAt (k0_off25 (co t)) (sl1 t) 3 := ⟨dst_next t 3⟩
instance : DstAt (k0_off27 (co t)) (sl1 t) 4 := ⟨dst_next t 4⟩
instance : DstAt (k0_off29 (co t)) (sl1 t) 5 := ⟨dst_next t 5⟩
instance : DstAt (k0_off31 (co t)) (sl1 t) 6 := ⟨dst_next t 6⟩
instance : DstAt (k0_off33 (co t)) (sl1 t) 7 := ⟨dst_next t 7⟩
instance : DstAt (k0_off36 (co t)) (sl0 t) 0 := ⟨dst_wait t 0⟩
instance : DstAt (k0_off38 (co t)) (sl0 t) 1 := ⟨dst_wait t 1⟩
instance : DstAt (k0_off40 (co t)) (sl0 t) 2 := ⟨dst_wait t 2⟩
instance : DstAt (k0_off42 (co t)) (sl0 t) 3 := ⟨dst_wait t 3⟩
instance : DstAt (k0_off44 (co t)) (sl0 t) 4 := ⟨dst_wait t 4⟩
instance : DstAt (k0_off46 (co t)) (sl0 t) 5 := ⟨dst_wait t 5⟩
instance : DstAt (k0_off48 (co t)) (sl0 t) 6 := ⟨dst_wait t 6⟩
instance : DstAt (k0_off50 (co t)) (sl0 t) 7 := ⟨dst_wait t 7⟩
instance : SrcAt (k0_off3 (co t)) (bk0 t) 0 := ⟨src_first t 0⟩
instance : SrcAt (k0_off5 (co t)) (bk0 t) 1 := ⟨src_first t 1⟩
instance : SrcAt (k0_off7 (co t)) (bk0 t) 2 := ⟨src_first t 2⟩
instance : SrcAt (k0_off9 (co t)) (bk0 t) 3 := ⟨src_first t 3⟩
instance : SrcAt (k0_off11 (co t)) (bk0 t) 4 := ⟨src_first t 4⟩
instance : SrcAt (k0_off13 (co t)) (bk0 t) 5 := ⟨src_first t 5⟩
instance : SrcAt (k0_off15 (co t)) (bk0 t) 6 := ⟨src_first t 6⟩
instance : SrcAt (k0_off17 (co t)) (bk0 t) 7 := ⟨src_first t 7⟩
instance [h : Fact (more (co t))] : SrcAt (k0_off20 (co t)) (bk1 t) 0 := ⟨src_next t h.out 0⟩
instance [h : Fact (more (co t))] : SrcAt (k0_off22 (co t)) (bk1 t) 1 := ⟨src_next t h.out 1⟩
instance [h : Fact (more (co t))] : SrcAt (k0_off24 (co t)) (bk1 t) 2 := ⟨src_next t h.out 2⟩
instance [h : Fact (more (co t))] : SrcAt (k0_off26 (co t)) (bk1 t) 3 := ⟨src_next t h.out 3⟩
instance [h : Fact (more (co t))] : SrcAt (k0_off28 (co t)) (bk1 t) 4 := ⟨src_next t h.out 4⟩
instance [h : Fact (more (co t))] : SrcAt (k0_off30 (co t)) (bk1 t) 5 := ⟨src_next t h.out 5⟩
instance [h : Fact (more (co t))] : SrcAt (k0_off32 (co t)) (bk1 t) 6 := ⟨src_next t h.out 6⟩
instance [h : Fact (more (co t))] : SrcAt (k0_off34 (co t)) (bk1 t) 7 := ⟨src_next t h.out 7⟩
instance (priority := high) : ClosedOff (k0_off52 (co t)) := ⟨![(Ring.sl 2 t.val).val, (0 : Fin 8).val, 0, 0], off_load t 0⟩
instance (priority := high) : ClosedOff (k0_off53 (co t)) := ⟨![(Ring.sl 2 t.val).val, (1 : Fin 8).val, 0, 0], off_load t 1⟩
instance (priority := high) : ClosedOff (k0_off54 (co t)) := ⟨![(Ring.sl 2 t.val).val, (2 : Fin 8).val, 0, 0], off_load t 2⟩
instance (priority := high) : ClosedOff (k0_off55 (co t)) := ⟨![(Ring.sl 2 t.val).val, (3 : Fin 8).val, 0, 0], off_load t 3⟩
instance (priority := high) : ClosedOff (k0_off56 (co t)) := ⟨![(Ring.sl 2 t.val).val, (4 : Fin 8).val, 0, 0], off_load t 4⟩
instance (priority := high) : ClosedOff (k0_off57 (co t)) := ⟨![(Ring.sl 2 t.val).val, (5 : Fin 8).val, 0, 0], off_load t 5⟩
instance (priority := high) : ClosedOff (k0_off58 (co t)) := ⟨![(Ring.sl 2 t.val).val, (6 : Fin 8).val, 0, 0], off_load t 6⟩
instance (priority := high) : ClosedOff (k0_off59 (co t)) := ⟨![(Ring.sl 2 t.val).val, (7 : Fin 8).val, 0, 0], off_load t 7⟩
instance : CellAt (k0_off1 (co t)) (sl0 t) := ⟨(off_cell t).1⟩
instance : CellAt (k0_off18 (co t)) (sl1 t) := ⟨(off_cell t).2.1⟩
instance : CellAt (k0_off35 (co t)) (sl0 t) := ⟨(off_cell t).2.2⟩

/-- A part's slice, under its name (in the two spellings of its extents). -/
@[sl_canon] theorem name_dst (o : Fin 4 → ℕ) (s : Fin 2) (w : Fin 8) [h : DstAt o s w] (hin : ∀ a, o a + S1x1x64x512.size a ≤ S2x8x64x512.size a) :
    (scM.slice (Rect.unit (s := S2x8x64x512) o S1x1x64x512.size hin) (fun _ => rfl)).squeeze S64x512 squeezes_S1x1x64x512_S64x512 = rwin s w :=
  congrArg (fun M : Memref sig .tc .vmem S1x1x64x512 .f32 => M.squeeze S64x512 squeezes_S1x1x64x512_S64x512) (Memref.slice_unit_congr _ h.eq _ _ (fun _ => rfl) (fun _ => rfl))
@[sl_canon] theorem name_dst' (o : Fin 4 → ℕ) (s : Fin 2) (w : Fin 8) [h : DstAt o s w] (hin : ∀ a, o a + S1x1x64x512.size a ≤ S2x8x64x512.size a) :
    (scM.slice (Rect.unit (s := S2x8x64x512) o ![1, 1, 64, 512] hin) (fun _ => rfl)).squeeze S64x512 squeezes_S1x1x64x512_S64x512 = rwin s w :=
  name_dst o s w hin
/-- A slab's slice of the image array, under its name. -/
@[sl_canon] theorem name_src (o : Fin 5 → ℕ) (b : Fin 24) (w : Fin 8) [h : SrcAt o b w] (hin : ∀ a, o a + S1x1x64x1x512.size a ≤ S8x3x64x8x512.size a) :
    (xM.slice (Rect.unit (s := S8x3x64x8x512) o S1x1x64x1x512.size hin) (fun _ => rfl)).squeeze S64x512 squeezes_S1x1x64x1x512_S64x512 = srcB b w :=
  congrArg (fun M : Memref sig .tc .hbm S1x1x64x1x512 .f32 => M.squeeze S64x512 squeezes_S1x1x64x1x512_S64x512) (Memref.slice_unit_congr _ h.eq _ _ (fun _ => rfl) (fun _ => rfl))
@[sl_canon] theorem name_src' (o : Fin 5 → ℕ) (b : Fin 24) (w : Fin 8) [h : SrcAt o b w] (hin : ∀ a, o a + S1x1x64x1x512.size a ≤ S8x3x64x8x512.size a) :
    (xM.slice (Rect.unit (s := S8x3x64x8x512) o ![1, 1, 64, 1, 512] hin) (fun _ => rfl)).squeeze S64x512 squeezes_S1x1x64x1x512_S64x512 = srcB b w :=
  name_src o b w hin
/-- A slot's cell, under its name. -/
@[sl_canon] theorem name_cell (o : Fin 1 → ℕ) (s : Fin 2) [h : CellAt o s] (hin : ∀ a, o a + S1.size a ≤ S2.size a) :
    (cc0_scratch1.slice (Rect.unit (s := S2) o S1.size hin)).squeeze S_ squeezes_S1_S_ = cellA s :=
  congrArg (fun A : DmaSems sig S1 => A.squeeze S_ squeezes_S1_S_) (SemArray.slice_unit_congr _ h.eq _ _)
@[sl_canon] theorem name_cell' (o : Fin 1 → ℕ) (s : Fin 2) [h : CellAt o s] (hin : ∀ a, o a + S1.size a ≤ S2.size a) :
    (cc0_scratch1.slice (Rect.unit (s := S2) o ![1] hin)).squeeze S_ squeezes_S1_S_ = cellA s :=
  name_cell o s hin

/-- What each kind of point does to the ring: the first step, a step with a block still to start, the last step. -/
theorem step_first : ∀ t : Fin grid0.N, first (co t) → more (co t) → t.val = 0 ∧ (t.val + 1) = 1 := by decide +kernel
theorem step_mid : ∀ t : Fin grid0.N, ¬first (co t) → more (co t) → 1 ≤ t.val ∧ t.val + 1 < 24 := by decide +kernel
theorem step_last : ∀ t : Fin grid0.N, ¬first (co t) → ¬more (co t) → 1 ≤ t.val ∧ t.val + 1 = 24 := by decide +kernel

end Names

end Cert.KernelIdeal.Hog
end
-- ==== Proof.RunFirst.lean ====
module

public import proofs.«01_k».proof.Proof.Ring

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1400000 in
/-- The body at the first point: it starts its own block and the next one, waits for its own, computes, and keeps its slot. The pieces its stores leave in the two outputs are what the run finds. -/
def runFirst (c : Dev nD) (t : Fin cfg0.N) (arg3 : Memref sig .tc .vmem S1x10x64x64 .f32) (harg3 : arg3.IsWhole) (arg4 : Memref sig .tc .vmem S1x1x64x64 .f32) (harg4 : arg4.IsWhole)
    (hc0 : first (grid0.coords t)) (hc1 : more (grid0.coords t)) (x : MBuf (F := F) c xM) :
    Σ' (L0 : List (View.Piece (Elt F) S1x10x64x64 .f32)), { L1 : List (View.Piece (Elt F) S1x1x64x64 .f32) //
      ∀ (W : Waits sig Unit) (K : PUnit → sProp 𝕄),
        iprop((∃ d, owns (c : Thread nD τ) arg3 fullShare d) ∗ (∃ d, owns (c : Thread nD τ) arg4 fullShare d)
            ∗ Ring.free (cellP c) (slotW c x) (Ring.sl 2 t.val) ∗ Ring.free (cellP c) (slotW c x) (Ring.sl 2 (t.val + 1)) ∗ owes (c : Thread nD τ) 0 W
            ∗ (iprop((∃ f, arg3.view.loc (c : Thread nD τ) ↦[arg3.view.set]{fullShare} arg3.view.writes (Elt F) f L0) ∗ (∃ f, arg4.view.loc (c : Thread nD τ) ↦[arg4.view.set]{fullShare} arg4.view.writes (Elt F) f L1)
              ∗ Ring.inflight (flightW c x) (Ring.sl 2 (t.val + 1)) (Ring.bk 24 (t.val + 1)) ∗ Ring.kept (cellP c) (slotW c x) (keep c) (Ring.sl 2 t.val) (Ring.bk 24 t.val) ∗ (∃ W', owes (c : Thread nD τ) 0 W')) -∗ K ⟨⟩))
          ⊢ wp frame (wpE (defs₀ (F := F)) Variants.none c none) Set.univ (cc0__hog_cell (grid0.coords t) (Memref.whole main_v0) (Memref.isWhole_whole _) arg3 harg3 arg4 harg4 scM (Memref.isWhole_whole _) cc0_scratch1) K } := by
  refine ⟨?_, ?_, fun W K => ?run⟩
  case run =>
    haveI : Fact (first (grid0.coords t)) := ⟨hc0⟩
    haveI : Fact (more (grid0.coords t)) := ⟨hc1⟩
    simp only [cc0__hog_cell_eq_skeleton]; unfold cc0__hog_cell_skel
    simp only [k0_part39_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns Ring.free Ring.inflight Ring.kept
    iintro ⟨⟨%d0, %f0, -, H0⟩, ⟨%d1, %f1, -, H1⟩, ⟨Hc0, ⟨%fs0, Hw0⟩⟩, ⟨Hc1, ⟨%fs1, Hw1⟩⟩, HW, Hk⟩
    ihave Ho0 := (slot_open c x (Ring.sl 2 t.val) (Ring.bk 24 t.val) fs0) $$ Hw0
    dsimp only [flightW, slotP, all8]
    icases Ho0 with ⟨⟨Hs0_0, Hs0_1, Hs0_2, Hs0_3, Hs0_4, Hs0_5, Hs0_6, Hs0_7⟩, ⟨Hh0_0, Hh0_1, Hh0_2, Hh0_3, Hh0_4, Hh0_5, Hh0_6, Hh0_7⟩, ⟨Hr0_0, Hr0_1, Hr0_2, Hr0_3, Hr0_4, Hr0_5, Hr0_6, Hr0_7⟩⟩
    have hD := storable_winD (F := F) c x (Ring.sl 2 t.val) (Ring.bk 24 t.val)
    imod (Transfers.batch_alloc' (Lvl := ℕ) countersEmb (c : Thread nD τ) default NN (winD c x (Ring.sl 2 t.val) (Ring.bk 24 t.val)) (sm := cellR (Ring.sl 2 t.val)) (E := Set.univ)) $$ Hc0 with HB0
    clear hD
    ihave Ho1 := (slot_open c x (Ring.sl 2 (t.val + 1)) (Ring.bk 24 (t.val + 1)) fs1) $$ Hw1
    dsimp only [flightW, slotP, all8]
    icases Ho1 with ⟨⟨Hs1_0, Hs1_1, Hs1_2, Hs1_3, Hs1_4, Hs1_5, Hs1_6, Hs1_7⟩, ⟨Hh1_0, Hh1_1, Hh1_2, Hh1_3, Hh1_4, Hh1_5, Hh1_6, Hh1_7⟩, ⟨Hr1_0, Hr1_1, Hr1_2, Hr1_3, Hr1_4, Hr1_5, Hr1_6, Hr1_7⟩⟩
    have hD := storable_winD (F := F) c x (Ring.sl 2 (t.val + 1)) (Ring.bk 24 (t.val + 1))
    imod (Transfers.batch_alloc' (Lvl := ℕ) countersEmb (c : Thread nD τ) default NN (winD c x (Ring.sl 2 (t.val + 1)) (Ring.bk 24 (t.val + 1))) (sm := cellR (Ring.sl 2 (t.val + 1))) (E := Set.univ)) $$ Hc1 with HB1
    clear hD
    sl_exec (disch := first | sl_exact hc0 | sl_exact hc1)
    sl_step
    iapply Hk
    isplitl [H0]; · iexists _; iexact H0
    isplitl [H1]; · iexists _; iexact H1
    isplitl [HB1 Hr1_0 Hr1_1 Hr1_2 Hr1_3 Hr1_4 Hr1_5 Hr1_6 Hr1_7]
    · iexists fs1; isplitl [HB1]; · iexact HB1
      isplitl [Hr1_0]; · iexact Hr1_0
      isplitl [Hr1_1]; · iexact Hr1_1
      isplitl [Hr1_2]; · iexact Hr1_2
      isplitl [Hr1_3]; · iexact Hr1_3
      isplitl [Hr1_4]; · iexact Hr1_4
      isplitl [Hr1_5]; · iexact Hr1_5
      isplitl [Hr1_6]; · iexact Hr1_6
      iexact Hr1_7
    isplitr [HW]
    · isplitl [HB0]; · iexact HB0
      iexists (landed c x (Ring.sl 2 t.val) (Ring.bk 24 t.val))
      iapply (slot_back c x (Ring.sl 2 t.val) (Ring.bk 24 t.val))
      dsimp only [all8]
      isplitl [HB0_dst0 HB0_dst1 HB0_dst2 HB0_dst3 HB0_dst4 HB0_dst5 HB0_dst6 HB0_dst7]
      · isplitl [HB0_dst0]; · iexact HB0_dst0
        isplitl [HB0_dst1]; · iexact HB0_dst1
        isplitl [HB0_dst2]; · iexact HB0_dst2
        isplitl [HB0_dst3]; · iexact HB0_dst3
        isplitl [HB0_dst4]; · iexact HB0_dst4
        isplitl [HB0_dst5]; · iexact HB0_dst5
        isplitl [HB0_dst6]; · iexact HB0_dst6
        iexact HB0_dst7
      isplitl [HB0_src0 HB0_src1 HB0_src2 HB0_src3 HB0_src4 HB0_src5 HB0_src6 HB0_src7]
      · isplitl [HB0_src0]; · iexact HB0_src0
        isplitl [HB0_src1]; · iexact HB0_src1
        isplitl [HB0_src2]; · iexact HB0_src2
        isplitl [HB0_src3]; · iexact HB0_src3
        isplitl [HB0_src4]; · iexact HB0_src4
        isplitl [HB0_src5]; · iexact HB0_src5
        isplitl [HB0_src6]; · iexact HB0_src6
        iexact HB0_src7
      isplitl [Hr0_0]; · iexact Hr0_0
      isplitl [Hr0_1]; · iexact Hr0_1
      isplitl [Hr0_2]; · iexact Hr0_2
      isplitl [Hr0_3]; · iexact Hr0_3
      isplitl [Hr0_4]; · iexact Hr0_4
      isplitl [Hr0_5]; · iexact Hr0_5
      isplitl [Hr0_6]; · iexact Hr0_6
      iexact Hr0_7
    iexists _; iexact HW

end Cert.KernelIdeal.Hog
end
-- ==== Proof.RunMid.lean ====
module

public import proofs.«01_k».proof.Proof.Ring

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1400000 in
/-- The body at a point between: it starts the next block into the slot kept before, waits for its own, computes, and keeps its slot. The pieces its stores leave in the two outputs are what the run finds. -/
def runMid (c : Dev nD) (t : Fin cfg0.N) (arg3 : Memref sig .tc .vmem S1x10x64x64 .f32) (harg3 : arg3.IsWhole) (arg4 : Memref sig .tc .vmem S1x1x64x64 .f32) (harg4 : arg4.IsWhole)
    (hc0 : ¬first (grid0.coords t)) (hc1 : more (grid0.coords t)) (x : MBuf (F := F) c xM) :
    Σ' (L0 : List (View.Piece (Elt F) S1x10x64x64 .f32)), { L1 : List (View.Piece (Elt F) S1x1x64x64 .f32) //
      ∀ (W : Waits sig Unit) (K : PUnit → sProp 𝕄),
        iprop((∃ d, owns (c : Thread nD τ) arg3 fullShare d) ∗ (∃ d, owns (c : Thread nD τ) arg4 fullShare d)
            ∗ Ring.inflight (flightW c x) (Ring.sl 2 t.val) (Ring.bk 24 t.val) ∗ Ring.kept (cellP c) (slotW c x) (keep c) (Ring.sl 2 (t.val + 1)) (Ring.bk 24 (t.val - 1)) ∗ owes (c : Thread nD τ) 0 W
            ∗ (iprop((∃ f, arg3.view.loc (c : Thread nD τ) ↦[arg3.view.set]{fullShare} arg3.view.writes (Elt F) f L0) ∗ (∃ f, arg4.view.loc (c : Thread nD τ) ↦[arg4.view.set]{fullShare} arg4.view.writes (Elt F) f L1)
              ∗ Ring.inflight (flightW c x) (Ring.sl 2 (t.val + 1)) (Ring.bk 24 (t.val + 1)) ∗ Ring.kept (cellP c) (slotW c x) (keep c) (Ring.sl 2 t.val) (Ring.bk 24 t.val) ∗ (∃ W', owes (c : Thread nD τ) 0 W')) -∗ K ⟨⟩))
          ⊢ wp frame (wpE (defs₀ (F := F)) Variants.none c none) Set.univ (cc0__hog_cell (grid0.coords t) (Memref.whole main_v0) (Memref.isWhole_whole _) arg3 harg3 arg4 harg4 scM (Memref.isWhole_whole _) cc0_scratch1) K } := by
  refine ⟨?_, ?_, fun W K => ?run⟩
  case run =>
    haveI : Fact (¬first (grid0.coords t)) := ⟨hc0⟩
    haveI : Fact (more (grid0.coords t)) := ⟨hc1⟩
    simp only [cc0__hog_cell_eq_skeleton]; unfold cc0__hog_cell_skel
    simp only [k0_part39_eq_skeleton, k0_part4_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns Ring.inflight Ring.kept
    iintro ⟨⟨%d0, %f0, -, H0⟩, ⟨%d1, %f1, -, H1⟩, ⟨%ff, Hf, Hr0⟩, ⟨Hc1, ⟨%fs1, Hw1⟩⟩, HW, Hk⟩
    dsimp only [flightW, slotP, all8]
    icases Hr0 with ⟨Hr0_0, Hr0_1, Hr0_2, Hr0_3, Hr0_4, Hr0_5, Hr0_6, Hr0_7⟩
    ihave Ho1 := (slot_open c x (Ring.sl 2 (t.val + 1)) (Ring.bk 24 (t.val + 1)) fs1) $$ Hw1
    dsimp only [flightW, slotP, all8]
    icases Ho1 with ⟨⟨Hs1_0, Hs1_1, Hs1_2, Hs1_3, Hs1_4, Hs1_5, Hs1_6, Hs1_7⟩, ⟨Hh1_0, Hh1_1, Hh1_2, Hh1_3, Hh1_4, Hh1_5, Hh1_6, Hh1_7⟩, ⟨Hr1_0, Hr1_1, Hr1_2, Hr1_3, Hr1_4, Hr1_5, Hr1_6, Hr1_7⟩⟩
    have hD := storable_winD (F := F) c x (Ring.sl 2 (t.val + 1)) (Ring.bk 24 (t.val + 1))
    imod (Transfers.batch_alloc' (Lvl := ℕ) countersEmb (c : Thread nD τ) default NN (winD c x (Ring.sl 2 (t.val + 1)) (Ring.bk 24 (t.val + 1))) (sm := cellR (Ring.sl 2 (t.val + 1))) (E := Set.univ)) $$ Hc1 with HB1
    clear hD
    sl_exec (disch := first | sl_exact hc0 | sl_exact hc1)
    sl_step
    iapply Hk
    isplitl [H0]; · iexists _; iexact H0
    isplitl [H1]; · iexists _; iexact H1
    isplitl [HB1 Hr1_0 Hr1_1 Hr1_2 Hr1_3 Hr1_4 Hr1_5 Hr1_6 Hr1_7]
    · iexists fs1; isplitl [HB1]; · iexact HB1
      isplitl [Hr1_0]; · iexact Hr1_0
      isplitl [Hr1_1]; · iexact Hr1_1
      isplitl [Hr1_2]; · iexact Hr1_2
      isplitl [Hr1_3]; · iexact Hr1_3
      isplitl [Hr1_4]; · iexact Hr1_4
      isplitl [Hr1_5]; · iexact Hr1_5
      isplitl [Hr1_6]; · iexact Hr1_6
      iexact Hr1_7
    isplitr [HW]
    · isplitl [Hf]; · iexact Hf
      iexists (landed c x (Ring.sl 2 t.val) (Ring.bk 24 t.val))
      iapply (slot_back c x (Ring.sl 2 t.val) (Ring.bk 24 t.val))
      dsimp only [all8]
      isplitl [Hf_dst0 Hf_dst1 Hf_dst2 Hf_dst3 Hf_dst4 Hf_dst5 Hf_dst6 Hf_dst7]
      · isplitl [Hf_dst0]; · iexact Hf_dst0
        isplitl [Hf_dst1]; · iexact Hf_dst1
        isplitl [Hf_dst2]; · iexact Hf_dst2
        isplitl [Hf_dst3]; · iexact Hf_dst3
        isplitl [Hf_dst4]; · iexact Hf_dst4
        isplitl [Hf_dst5]; · iexact Hf_dst5
        isplitl [Hf_dst6]; · iexact Hf_dst6
        iexact Hf_dst7
      isplitl [Hf_src0 Hf_src1 Hf_src2 Hf_src3 Hf_src4 Hf_src5 Hf_src6 Hf_src7]
      · isplitl [Hf_src0]; · iexact Hf_src0
        isplitl [Hf_src1]; · iexact Hf_src1
        isplitl [Hf_src2]; · iexact Hf_src2
        isplitl [Hf_src3]; · iexact Hf_src3
        isplitl [Hf_src4]; · iexact Hf_src4
        isplitl [Hf_src5]; · iexact Hf_src5
        isplitl [Hf_src6]; · iexact Hf_src6
        iexact Hf_src7
      isplitl [Hr0_0]; · iexact Hr0_0
      isplitl [Hr0_1]; · iexact Hr0_1
      isplitl [Hr0_2]; · iexact Hr0_2
      isplitl [Hr0_3]; · iexact Hr0_3
      isplitl [Hr0_4]; · iexact Hr0_4
      isplitl [Hr0_5]; · iexact Hr0_5
      isplitl [Hr0_6]; · iexact Hr0_6
      iexact Hr0_7
    iexists _; iexact HW

end Cert.KernelIdeal.Hog
end
-- ==== Proof.RunLast.lean ====
module

public import proofs.«01_k».proof.Proof.Ring

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1400000 in
/-- The body at the last point: it waits for its block, computes, and hands the slot back. The pieces its stores leave in
    the two outputs are what the run finds. -/
def runLast (c : Dev nD) (t : Fin cfg0.N) (arg3 : Memref sig .tc .vmem S1x10x64x64 .f32) (harg3 : arg3.IsWhole) (arg4 : Memref sig .tc .vmem S1x1x64x64 .f32) (harg4 : arg4.IsWhole)
    (hc0 : ¬first (grid0.coords t)) (hc1 : ¬more (grid0.coords t)) (x : MBuf (F := F) c xM) :
    Σ' (L0 : List (View.Piece (Elt F) S1x10x64x64 .f32)), { L1 : List (View.Piece (Elt F) S1x1x64x64 .f32) //
      ∀ (W : Waits sig Unit) (K : PUnit → sProp 𝕄),
        iprop((∃ d, owns (c : Thread nD τ) arg3 fullShare d) ∗ (∃ d, owns (c : Thread nD τ) arg4 fullShare d)
            ∗ Ring.inflight (flightW c x) (Ring.sl 2 t.val) (Ring.bk 24 t.val) ∗ owes (c : Thread nD τ) 0 W
            ∗ (iprop((∃ f, arg3.view.loc (c : Thread nD τ) ↦[arg3.view.set]{fullShare} arg3.view.writes (Elt F) f L0) ∗ (∃ f, arg4.view.loc (c : Thread nD τ) ↦[arg4.view.set]{fullShare} arg4.view.writes (Elt F) f L1)
              ∗ Ring.kept (cellP c) (slotW c x) (keep c) (Ring.sl 2 t.val) (Ring.bk 24 t.val) ∗ (∃ W', owes (c : Thread nD τ) 0 W')) -∗ K ⟨⟩))
          ⊢ wp frame (wpE (defs₀ (F := F)) Variants.none c none) Set.univ (cc0__hog_cell (grid0.coords t) (Memref.whole main_v0) (Memref.isWhole_whole _) arg3 harg3 arg4 harg4 scM (Memref.isWhole_whole _) cc0_scratch1) K } := by
  refine ⟨?_, ?_, fun W K => ?run⟩
  case run =>
    haveI : Fact (¬first (grid0.coords t)) := ⟨hc0⟩
    haveI : Fact (¬more (grid0.coords t)) := ⟨hc1⟩
    simp only [cc0__hog_cell_eq_skeleton]; unfold cc0__hog_cell_skel
    simp only [k0_part39_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns Ring.inflight Ring.kept
    dsimp only [flightW, all8]
    iintro ⟨⟨%d0, %f0, -, H0⟩, ⟨%d1, %f1, -, H1⟩, ⟨%ff, Hf, Hr0, Hr1, Hr2, Hr3, Hr4, Hr5, Hr6, Hr7⟩, HW, Hk⟩
    sl_exec (disch := first | sl_exact hc0 | sl_exact hc1)
    sl_step
    iapply Hk
    isplitl [H0]; · iexists _; iexact H0
    isplitl [H1]; · iexists _; iexact H1
    isplitr [HW]
    · isplitl [Hf]; · iexact Hf
      iexists (landed c x (Ring.sl 2 t.val) (Ring.bk 24 t.val))
      iapply (slot_back c x (Ring.sl 2 t.val) (Ring.bk 24 t.val))
      dsimp only [all8]
      isplitl [Hf_dst0 Hf_dst1 Hf_dst2 Hf_dst3 Hf_dst4 Hf_dst5 Hf_dst6 Hf_dst7]
      · isplitl [Hf_dst0]; · iexact Hf_dst0
        isplitl [Hf_dst1]; · iexact Hf_dst1
        isplitl [Hf_dst2]; · iexact Hf_dst2
        isplitl [Hf_dst3]; · iexact Hf_dst3
        isplitl [Hf_dst4]; · iexact Hf_dst4
        isplitl [Hf_dst5]; · iexact Hf_dst5
        isplitl [Hf_dst6]; · iexact Hf_dst6
        iexact Hf_dst7
      isplitl [Hf_src0 Hf_src1 Hf_src2 Hf_src3 Hf_src4 Hf_src5 Hf_src6 Hf_src7]
      · isplitl [Hf_src0]; · iexact Hf_src0
        isplitl [Hf_src1]; · iexact Hf_src1
        isplitl [Hf_src2]; · iexact Hf_src2
        isplitl [Hf_src3]; · iexact Hf_src3
        isplitl [Hf_src4]; · iexact Hf_src4
        isplitl [Hf_src5]; · iexact Hf_src5
        isplitl [Hf_src6]; · iexact Hf_src6
        iexact Hf_src7
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    iexists _; iexact HW

end Cert.KernelIdeal.Hog
end
-- ==== Proof.Region.lean ====
/-
  The region of the kernel: what its two outputs hold after each point, the proof data, the body obligation, the launch
  and the frame, from the three runs of the body.
-/
module

public import proofs.«01_k».proof.Proof.RunFirst
public import proofs.«01_k».proof.Proof.RunMid
public import proofs.«01_k».proof.Proof.RunLast
public import Idealize.ShloMosaic.Lib.Claim

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body leaves -/

section Outs
variable (c : Dev nD) (x : MBuf (F := F) c xM) (t : Fin cfg0.N)

/-- The pieces the body stores at point `t`: of the case the point is in. -/
def pieces : List (View.Piece (Elt F) S1x10x64x64 .f32) × List (View.Piece (Elt F) S1x1x64x64 .f32) :=
  if h0 : first (grid0.coords t) then
    if h1 : more (grid0.coords t) then
      ((runFirst c t (histM t) (histW t) (poolM t) (poolW t) h0 h1 x).1, (runFirst c t (histM t) (histW t) (poolM t) (poolW t) h0 h1 x).2.1)
    else ([], [])
  else if h1 : more (grid0.coords t) then
    ((runMid c t (histM t) (histW t) (poolM t) (poolW t) h0 h1 x).1, (runMid c t (histM t) (histW t) (poolM t) (poolW t) h0 h1 x).2.1)
  else ((runLast c t (histM t) (histW t) (poolM t) (poolW t) h0 h1 x).1, (runLast c t (histM t) (histW t) (poolM t) (poolW t) h0 h1 x).2.1)

theorem pieces_first (h0 : first (grid0.coords t)) (h1 : more (grid0.coords t)) :
    pieces c x t = ((runFirst c t (histM t) (histW t) (poolM t) (poolW t) h0 h1 x).1, (runFirst c t (histM t) (histW t) (poolM t) (poolW t) h0 h1 x).2.1) :=
  (dif_pos h0).trans (dif_pos h1)
theorem pieces_mid (h0 : ¬first (grid0.coords t)) (h1 : more (grid0.coords t)) :
    pieces c x t = ((runMid c t (histM t) (histW t) (poolM t) (poolW t) h0 h1 x).1, (runMid c t (histM t) (histW t) (poolM t) (poolW t) h0 h1 x).2.1) :=
  (dif_neg h0).trans (dif_pos h1)
theorem pieces_last (h0 : ¬first (grid0.coords t)) (h1 : ¬more (grid0.coords t)) :
    pieces c x t = ((runLast c t (histM t) (histW t) (poolM t) (poolW t) h0 h1 x).1, (runLast c t (histM t) (histW t) (poolM t) (poolW t) h0 h1 x).2.1) :=
  (dif_neg h0).trans (dif_neg h1)

/-- No point starts the first block without starting the next. -/
theorem no_lone (h0 : first (grid0.coords t)) (h1 : ¬more (grid0.coords t)) : False := by
  have a : t.val % 24 = 0 := (first_iff t).mp h0
  have b : ¬ t.val < 23 := fun h => h1 ((more_iff t).mpr h)
  have hN : t.val < 24 := lt_of_lt_of_eq t.isLt (show cfg0.N = 24 from N_0)
  omega

/-- The pieces of the histogram's block tile it: ten channels, -/
theorem cover_hist (y : S1x10x64x64.Idx) : ∃ pc ∈ (pieces c x t).1, y ∈ pc.1.set := by
  by_cases h0 : first (grid0.coords t) <;> by_cases h1 : more (grid0.coords t)
  · rw [pieces_first c x t h0 h1]; exact View.cover_of_tiledL (runFirst c t (histM t) (histW t) (poolM t) (poolW t) h0 h1 x).1 S1x1x64x64.size (by sl_kernel_rfl) y
  · exact (no_lone t h0 h1).elim
  · rw [pieces_mid c x t h0 h1]; exact View.cover_of_tiledL (runMid c t (histM t) (histW t) (poolM t) (poolW t) h0 h1 x).1 S1x1x64x64.size (by sl_kernel_rfl) y
  · rw [pieces_last c x t h0 h1]; exact View.cover_of_tiledL (runLast c t (histM t) (histW t) (poolM t) (poolW t) h0 h1 x).1 S1x1x64x64.size (by sl_kernel_rfl) y
/-- and the one piece of the pooled image's block is all of it. -/
theorem cover_pool (y : S1x1x64x64.Idx) : ∃ pc ∈ (pieces c x t).2, y ∈ pc.1.set := by
  by_cases h0 : first (grid0.coords t) <;> by_cases h1 : more (grid0.coords t)
  · rw [pieces_first c x t h0 h1]; exact View.cover_of_tiledL (runFirst c t (histM t) (histW t) (poolM t) (poolW t) h0 h1 x).2.1 S1x1x64x64.size (by sl_kernel_rfl) y
  · exact (no_lone t h0 h1).elim
  · rw [pieces_mid c x t h0 h1]; exact View.cover_of_tiledL (runMid c t (histM t) (histW t) (poolM t) (poolW t) h0 h1 x).2.1 S1x1x64x64.size (by sl_kernel_rfl) y
  · rw [pieces_last c x t h0 h1]; exact View.cover_of_tiledL (runLast c t (histM t) (histW t) (poolM t) (poolW t) h0 h1 x).2.1 S1x1x64x64.size (by sl_kernel_rfl) y

/-- What the body leaves in each output's staging memref: its pieces read back. -/
def outHist : Vec F S1x10x64x64 .f32 := histView.read (Elt F) (histView.writes (Elt F) histView.junk (pieces c x t).1)
def outPool : Vec F S1x1x64x64 .f32 := poolView.read (Elt F) (poolView.writes (Elt F) poolView.junk (pieces c x t).2)

end Outs

/-! ## The pipeline's proof data -/

/-- The region invariant before point `k`: the generator register at some state, the ring, and the scratch beside its parts. -/
def PhiR (c : Dev nD) (k : ℕ) : sProp 𝕄 := iprop((∃ r, prngReg c r) ∗ (ringAt c (V m c main_v0) k ∗ spareP c))

/-- The proof data on core `c`: the arrays as the region finds them, the outputs after each point, the invariant, nothing
    owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => outHist c (V m c main_v0) t
    | ⟨1, _⟩ => outPool c (V m c main_v0) t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_hist (c : Dev nD) (t : Fin cfg0.N) : (dats m 0 c).after 0 t = outHist c (V m c main_v0) t := by dsimp only [dats]
theorem after_pool (c : Dev nD) (t : Fin cfg0.N) : (dats m 0 c).after 1 t = outPool c (V m c main_v0) t := by dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (histM t) fullShare ((dats m 0 c).before 0 t d))
    ∗ (∃ d, owns (c : Thread nD τ) (poolM t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ owns (c : Thread nD τ) (histM t) fullShare ((dats m 0 c).after 0 t)
    ∗ owns (c : Thread nD τ) (poolM t) fullShare ((dats m 0 c).after 1 t))

/-- Pieces that cover a memref leave it at what they read back as over anything. -/
theorem covered {S : Shape} {e : EltTy} (c : Dev nD) (M : Memref sig .tc .vmem S e) (R : View sig .tc .vmem S e) (L L' : List (View.Piece (Elt F) S e)) (hL : L' = L)
    (hc : ∀ y, ∃ pc ∈ L', y ∈ pc.1.set) :
    iprop(∃ f, M.view.loc (c : Thread nD τ) ↦[M.view.set]{fullShare} M.view.writes (Elt F) f L)
      ⊢ (owns (c : Thread nD τ) M fullShare (R.read (Elt F) (R.writes (Elt F) R.junk L')) : sProp 𝕄) := by
  subst hL
  iintro ⟨%f, H⟩
  unfold owns; iexists _; isplitr
  swap; · iexact H
  ipureintro; exact View.read_writes_of_cover _ _ _ _ _ hc

set_option maxHeartbeats 1200000 in
/-- The body at any point: by the case the point is in, the invariant is the ring pieces that case takes, the run applies,
    and what it hands back is the invariant before the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_hist, after_pool]
  rw [PhiR_castSucc m c t, PhiR_succ m c t]
  unfold Dat.owesAt Pipeline.owesWithin
  rw [show (dats m 0 c).owed t.castSucc = 0 from rfl, show (dats m 0 c).owed t.succ = 0 from rfl]
  unfold PhiR ringAt outHist outPool
  by_cases h0 : first (grid0.coords t)
  · by_cases h1 : more (grid0.coords t)
    · obtain ⟨hK0, hK1⟩ := step_first t h0 h1
      rw [if_pos hK0, if_neg (Nat.succ_ne_zero _)]
      rw [Ring.At₀_eq2' _ _ _ t.val hK0 (by decide : 2 ≤ 24), Ring.AtK2_one' _ _ _ _ _ t.val hK0 (by decide : 1 < 24)]
      iintro ⟨⟨Hg, ⟨⟨-, Hfr0, Hfr1⟩, HSp⟩⟩, ⟨%W, -, HW⟩, ⟨%d0, H0⟩, ⟨%d1, H1⟩⟩
      iapply ((runFirst c t _ _ _ _ h0 h1 (V m c main_v0)).2.2 W _)
      isplitl [H0]; · iexists _; iexact H0
      isplitl [H1]; · iexists _; iexact H1
      isplitl [Hfr0]; · iexact Hfr0
      isplitl [Hfr1]; · iexact Hfr1
      isplitl [HW]; · iexact HW
      iintro ⟨H0, H1, Hfl', Hkp', ⟨%W', HW'⟩⟩
      isplitl [Hg HSp Hfl' Hkp']
      · isplitl [Hg]; · iexact Hg
        isplitl [Hfl' Hkp']
        · iapply Ring.with_homes₀
          isplitl [Hfl']; · iexact Hfl'
          iexact Hkp'
        iexact HSp
      isplitl [HW']
      · iexists W'; isplitr; · ipureintro; exact fun _ _ => Or.inl trivial
        iexact HW'
      isplitl [H0]
      · iapply (covered c (histM t) histView _ _ (congrArg Prod.fst (pieces_first c _ t h0 h1)) (cover_hist c _ t)); iexact H0
      iapply (covered c (poolM t) poolView _ _ (congrArg Prod.snd (pieces_first c _ t h0 h1)) (cover_pool c _ t)); iexact H1
    · exact (no_lone t h0 h1).elim
  · by_cases h1 : more (grid0.coords t)
    · obtain ⟨hK1, hKB⟩ := step_mid t h0 h1
      rw [if_neg (show ¬t.val = 0 by omega), if_neg (Nat.succ_ne_zero _)]
      rw [Ring.AtK2_here _ _ _ _ _ t.val hK1 hKB, Ring.AtK2_next _ _ _ _ _ t.val hK1 hKB]
      iintro ⟨⟨Hg, ⟨⟨-, Hfl, Hkp⟩, HSp⟩⟩, ⟨%W, -, HW⟩, ⟨%d0, H0⟩, ⟨%d1, H1⟩⟩
      iapply ((runMid c t _ _ _ _ h0 h1 (V m c main_v0)).2.2 W _)
      isplitl [H0]; · iexists _; iexact H0
      isplitl [H1]; · iexists _; iexact H1
      isplitl [Hfl]; · iexact Hfl
      isplitl [Hkp]; · iexact Hkp
      isplitl [HW]; · iexact HW
      iintro ⟨H0, H1, Hfl', Hkp', ⟨%W', HW'⟩⟩
      isplitl [Hg HSp Hfl' Hkp']
      · isplitl [Hg]; · iexact Hg
        isplitl [Hfl' Hkp']
        · iapply (Ring.with_homes (Idealize.SL.BI.Entails.refl _))
          isplitl [Hfl']; · iexact Hfl'
          iexact Hkp'
        iexact HSp
      isplitl [HW']
      · iexists W'; isplitr; · ipureintro; exact fun _ _ => Or.inl trivial
        iexact HW'
      isplitl [H0]
      · iapply (covered c (histM t) histView _ _ (congrArg Prod.fst (pieces_mid c _ t h0 h1)) (cover_hist c _ t)); iexact H0
      iapply (covered c (poolM t) poolView _ _ (congrArg Prod.snd (pieces_mid c _ t h0 h1)) (cover_pool c _ t)); iexact H1
    · obtain ⟨hK1, hKB⟩ := step_last t h0 h1
      rw [if_neg (show ¬t.val = 0 by omega), if_neg (Nat.succ_ne_zero _)]
      rw [Ring.AtK2_here_last _ _ _ _ _ t.val hK1 hKB, Ring.AtK2_next_last _ _ _ _ _ t.val hK1 hKB]
      iintro ⟨⟨Hg, ⟨⟨-, Hfl, Hkp⟩, HSp⟩⟩, ⟨%W, -, HW⟩, ⟨%d0, H0⟩, ⟨%d1, H1⟩⟩
      iapply ((runLast c t _ _ _ _ h0 h1 (V m c main_v0)).2.2 W _)
      isplitl [H0]; · iexists _; iexact H0
      isplitl [H1]; · iexists _; iexact H1
      isplitl [Hfl]; · iexact Hfl
      isplitl [HW]; · iexact HW
      iintro ⟨H0, H1, Hkp', ⟨%W', HW'⟩⟩
      isplitl [Hg Hkp HSp Hkp']
      · isplitl [Hg]; · iexact Hg
        isplitl [Hkp Hkp']
        · iapply (Ring.with_homes (Idealize.SL.BI.Entails.refl _))
          isplitl [Hkp]; · iexact Hkp
          iexact Hkp'
        iexact HSp
      isplitl [HW']
      · iexists W'; isplitr; · ipureintro; exact fun _ _ => Or.inl trivial
        iexact HW'
      isplitl [H0]
      · iapply (covered c (histM t) histView _ _ (congrArg Prod.fst (pieces_last c _ t h0 h1)) (cover_hist c _ t)); iexact H0
      iapply (covered c (poolM t) poolView _ _ (congrArg Prod.snd (pieces_last c _ t h0 h1)) (cover_pool c _ t)); iexact H1

theorem body_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the region is the invariant before the first point, -/
theorem hin (c : Dev nD) : Pipeline.ΦD ownCells spec0 H0 (V m) c ⊢ (dats m 0 c).Φ 0 := by
  rw [PhiD_eq, show (dats m 0 c).Φ 0 = PhiR m c 0 from rfl]
  unfold PhiR
  iintro ⟨HR, Hg, Hq, Hh⟩
  isplitl [Hg]; · iexact Hg
  iapply (ring_in (F := F) c)
  isplitl [HR]; · iexact HR
  isplitl [Hq]; · iexact Hq
  iexact Hh
/-- and the invariant after the last point hands it back. -/
theorem hout (c : Dev nD) : (dats m 0 c).Φ (Fin.last cfg0.N) ⊢ Pipeline.ΦD ownCells spec0 H0 (V m) c := by
  rw [PhiD_eq, show (dats m 0 c).Φ (Fin.last cfg0.N) = PhiR m c grid0.N from rfl]
  unfold PhiR
  rw [show grid0.N = 24 by rw [N_0]]
  iintro ⟨Hg, HR⟩
  ihave HX := (ring_out (F := F) c) $$ HR
  icases HX with ⟨HR, Hq, Hh⟩
  isplitl [HR]; · iexact HR
  isplitl [Hg]; · iexact Hg
  isplitl [Hq]; · iexact Hq
  iexact Hh

/-! ## The run and the frame -/

set_option maxHeartbeats 800000 in
/-- The program around the region: the host line before it, the region, the host line after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region does not write the argument. -/
theorem tail_arg (c : Dev nD) : Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option backward.isDefEq.respectTransparency.types false in
set_option maxHeartbeats 800000 in
/-- The launch: the arrays end at what the proof data computes, every other buffer as the lines after the region leave it,
    every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownCells defs₀ Variants.none ownCells_facts H0 H0_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_around m Variants.none) (hA := A_eq m) (hin := hin m) (hout := hout m)

/-- The arrays and the other buffers at the end, without the counters. -/
theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main m ρ)

/-- The frame: the program ends, its argument unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and ((θ_run defs _ _).mono (fun _ h c => ((h c).2 main_arg0 (Pipeline.mem_restRefs_of main_arg0 (by decide) (by decide))).trans (tail_arg m c)) (run_post m ρ)) ((θ_run defs _ _).mono (fun _ h => h.2) (run_main m ρ))

end Cert.KernelIdeal.Hog
end
-- ==== Proof.Frames.lean ====
/-
  The three frames.  The kernel's two printed programs are one text, so the frame proved over any float values is read at
  the words for the first and at the reals for the second; the reference has no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Region

@[expose] public section

set_option maxRecDepth 16384

noncomputable section

namespace Cert.Proof

open Idealize.ShloMosaic Idealize.ShloMosaic.TcCoe Idealize.SL.Sem

/-- The frame of the kernel's text at the words, stated over the second print of it. -/
def FrameAtWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- The two prints are one text. -/
theorem one_text : Cert.quiescent_Kernel (hKernel := Cert.Kernel.Gen.facts) = FrameAtWords := by sl_kernel_rfl

theorem frame_kernel : Cert.quiescent_Kernel (hKernel := Cert.Kernel.Gen.facts) :=
  one_text.mpr fun m g _ => Cert.KernelIdeal.Hog.frame_run (F := Bits) m g

theorem frame_ideal : Cert.quiescent_KernelIdeal (hKernelIdeal := Cert.KernelIdeal.Gen.facts) :=
  fun m g _ => Cert.KernelIdeal.Hog.frame_run (F := Ideal) m g

theorem frame_reference : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) _⟩) (Cert.ReferenceIdeal.Value.run (F := Ideal) m g)

end Cert.Proof

end
-- ==== Proof.Block.lean ====
/-
  The arithmetic of one block, as a function of the block's eight slabs: slab `s` holds the image rows `8 r + s`, so a row
  above or below a pixel lies in the neighbouring slab, and only the first and last slab shift rows.
-/
module

public import proofs.«01_k».proof.Proof.Region

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic

variable {F : FTy → Type} [FloatOps F]

abbrev Slab (F : FTy → Type) := FVec F S64x512 FTy.f32

section Ops

def zrow : FVec F S1x512 .f32 := broadcast S1x512 (Scalar.ofBits .f32 0x00000000#32)
def zcol : FVec F S64x1 .f32 := broadcast S64x1 (Scalar.ofBits .f32 0x00000000#32)
/-- A constant slab, by its word. -/
def lit (w : BitVec 32) : Slab F := broadcast S64x512 (Scalar.ofBits .f32 w)
/-- A slab moved one row down, one row up, one column right, one column left; zero comes in at the border. -/
def rowDown (a : Slab F) : Slab F :=
  concatenate S64x512 0 [⟨S1x512, zrow⟩, ⟨S63x512, extractStridedSlice S63x512 ![0, 0] a slices_S64x512_o0_0_S63x512⟩] concatenates_S1x512_S63x512_S64x512_d0
def rowUp (a : Slab F) : Slab F :=
  concatenate S64x512 0 [⟨S63x512, extractStridedSlice S63x512 ![1, 0] a slices_S64x512_o1_0_S63x512⟩, ⟨S1x512, zrow⟩] concatenates_S63x512_S1x512_S64x512_d0
def colRight (a : Slab F) : Slab F :=
  concatenate S64x512 1 [⟨S64x1, zcol⟩, ⟨S64x511, extractStridedSlice S64x511 ![0, 0] a slices_S64x512_o0_0_S64x511⟩] concatenates_S64x1_S64x511_S64x512_d1
def colLeft (a : Slab F) : Slab F :=
  concatenate S64x512 1 [⟨S64x511, extractStridedSlice S64x511 ![0, 1] a slices_S64x512_o0_1_S64x511⟩, ⟨S64x1, zcol⟩] concatenates_S64x511_S64x1_S64x512_d1

/-- The image row above, and below, each row of slab `s`. -/
def above (Y : Fin 8 → Slab F) : Fin 8 → Slab F := ![rowDown (Y 7), Y 0, Y 1, Y 2, Y 3, Y 4, Y 5, Y 6]
def below (Y : Fin 8 → Slab F) : Fin 8 → Slab F := ![Y 1, Y 2, Y 3, Y 4, Y 5, Y 6, Y 7, rowUp (Y 0)]
/-- The sum of the eight slabs, from the first. -/
def accum (Y : Fin 8 → Slab F) : Slab F :=
  addf (addf (addf (addf (addf (addf (addf (Y 0) (Y 1)) (Y 2)) (Y 3)) (Y 4)) (Y 5)) (Y 6)) (Y 7)

end Ops

section Pixels
variable (Y : Fin 8 → Slab F)

def yb (s : Fin 8) : Slab F := extf .f32 (truncf .bf16 (Y s) bitsLt_bf16_f32) bitsLt_bf16_f32
def sv (s : Fin 8) : Slab F := addf (addf (above (yb Y) s) (mulf (lit 0x40000000#32) (yb Y s))) (below (yb Y) s)
def sh (s : Fin 8) : Slab F := addf (addf (colRight (yb Y s)) (mulf (lit 0x40000000#32) (yb Y s))) (colLeft (yb Y s))
def g0 (s : Fin 8) : Slab F := subf (colRight (sv Y s)) (colLeft (sv Y s))
def g1 (s : Fin 8) : Slab F := subf (above (sh Y) s) (below (sh Y) s)
def mag (s : Fin 8) : Slab F := sqrt (addf (mulf (g0 Y s) (g0 Y s)) (mulf (g1 Y s) (g1 Y s)))
def neg (s : Fin 8) : IVec S64x512 1 :=
  ori (cmpf .olt (g0 Y s) (lit 0x00000000#32)) (andi (cmpf .oeq (g0 Y s) (lit 0x00000000#32)) (cmpf .olt (g1 Y s) (lit 0x00000000#32)))
def gx (s : Fin 8) : Slab F := select (neg Y s) (subf (lit 0x00000000#32) (g0 Y s)) (g0 Y s)
def gy (s : Fin 8) : Slab F := select (neg Y s) (subf (lit 0x00000000#32) (g1 Y s)) (g1 Y s)
def axis0 (s : Fin 8) : IVec S64x512 1 := cmpf .oeq (g0 Y s) (lit 0x00000000#32)
def om (s : Fin 8) : Slab F := subf (lit 0x3F800000#32) (mag Y s)
/-- The nine edges' cotangents, as words. -/
def cots : Fin 9 → BitVec 32 :=
  ![0x4044F8C4#32, 0x3FB02D48#32, 0x3F39FEB1#32, 0x3EA65BE0#32, 0x00000000#32, 0xBEA65BE0#32, 0xBF39FEB1#32, 0xBFB02D48#32, 0xC044F8C4#32]
def cross (k : Fin 9) (s : Fin 8) : Slab F := subf (mulf (gx Y s) (lit (cots k))) (gy Y s)
/-- The part of the magnitudes at or past an edge, and of the complements strictly past it. -/
def pa (k : Fin 9) : Slab F := accum fun s => select (cmpf .oge (cross Y k s) (lit 0x00000000#32)) (mag Y s) (lit 0x00000000#32)
def pb (k : Fin 9) : Slab F :=
  accum fun s => select (ori (cmpf .ogt (cross Y k s) (lit 0x00000000#32)) (axis0 Y s)) (om Y s) (lit 0x00000000#32)
def pas : Fin 11 → Slab F :=
  ![accum (mag Y), pa Y 0, pa Y 1, pa Y 2, pa Y 3, pa Y 4, pa Y 5, pa Y 6, pa Y 7, pa Y 8, lit 0x00000000#32]
def pbs : Fin 11 → Slab F :=
  ![subf (lit 0x41000000#32) (accum (mag Y)), pb Y 0, pb Y 1, pb Y 2, pb Y 3, pb Y 4, pb Y 5, pb Y 6, pb Y 7, pb Y 8, lit 0x00000000#32]
/-- A channel before pooling over columns: bin `b` of the floors and bin `b` of the ceilings. -/
def chan (b : Fin 10) : Slab F :=
  addf (subf (pas Y b.castSucc) (pas Y b.succ)) (subf (pbs Y (b + 9).castSucc) (pbs Y (b + 9).succ))
def chans : FVec F S704x512 .f32 :=
  concatenate S704x512 0 [⟨S64x512, chan Y 0⟩, ⟨S64x512, chan Y 1⟩, ⟨S64x512, chan Y 2⟩, ⟨S64x512, chan Y 3⟩, ⟨S64x512, chan Y 4⟩,
    ⟨S64x512, chan Y 5⟩, ⟨S64x512, chan Y 6⟩, ⟨S64x512, chan Y 7⟩, ⟨S64x512, chan Y 8⟩, ⟨S64x512, chan Y 9⟩, ⟨S64x512, accum Y⟩] concatenates_S64x512_S64x512_S64x512_S64x512_S64x512_S64x512_S64x512_S64x512_S64x512_S64x512_S64x512_S704x512_d0

/-- The column's group of eight, as the floor of a quotient. -/
def group8 : IVec S512x64 32 :=
  let i := iota .tc S512x64 32 [0] iota_S512x64_d0_w32
  let q := divsi i (broadcast S512x64 8#32)
  select
    (andi
      (cmpi .ne (subi (extui 32 (cmpi .sgt i (broadcast S512x64 0#32)) natLt_1_32) (extui 32 (cmpi .slt i (broadcast S512x64 0#32)) natLt_1_32))
        (broadcast S512x64 (Scalar.subi (Scalar.extui (Scalar.cmpi .sgt 8#32 0#32)) (Scalar.extui (Scalar.cmpi .slt 8#32 0#32)))))
      (cmpi .ne (remsi i (broadcast S512x64 8#32)) (broadcast S512x64 0#32)))
    (subi q (broadcast S512x64 1#32)) q
/-- The pooling matrix: column `j` into group `j / 8`. -/
def poolMat : FVec F S512x64 .bf16 :=
  truncf .bf16 (sitofp .f32 (extui 32 (cmpi .eq group8 (iota .tc S512x64 32 [1] iota_S512x64_d1_w32)) natLt_1_32)) bitsLt_bf16_f32
/-- The eleven channels pooled over columns, in two products, and scaled. -/
def hiPart (C : FVec F S704x512 .f32) : FVec F S704x512 .bf16 := truncf .bf16 C bitsLt_bf16_f32
def loPart (C : FVec F S704x512 .f32) : FVec F S704x512 .bf16 := truncf .bf16 (subf C (extf .f32 (hiPart C) bitsLt_bf16_f32)) bitsLt_bf16_f32
def pooled (C : FVec F S704x512 .f32) : FVec F S704x64 .f32 :=
  mulf (addf (matmul dot_S704x512_S512x64_S704x64_1_0_0_1_n_n none (hiPart C) poolMat (constant S704x64 .f32 0x00000000#32))
      (matmul dot_S704x512_S512x64_S704x64_1_0_0_1_n_n none (loPart C) poolMat (constant S704x64 .f32 0x00000000#32)))
    (broadcast S704x64 (Scalar.ofBits .f32 0x3C800000#32))
def block : FVec F S704x64 .f32 := pooled (chans Y)

end Pixels

section Store
variable (R : FVec F S704x64 .f32)

/-- A channel of the result, as the block of the output it is stored to. -/
def chanOf (o : Fin 2 → ℕ) (h : S704x64.Slices o S64x64) : FVec F S1x1x64x64 .f32 :=
  shapeCast S1x1x64x64 (extractStridedSlice S64x64 o R h) shapeCasts_S64x64_S1x1x64x64
/-- The pieces the stores leave: ten channels of the histogram, and the pooled image. -/
def histPieces : List (View.Piece (Elt F) S1x10x64x64 .f32) :=
  [⟨Rect.unit ![0, 9, 0, 0] ![1, 1, 64, 64] inb_S1x10x64x64_S1x1x64x64_0_9_0_0, chanOf R ![576, 0] slices_S704x64_o576_0_S64x64⟩,
   ⟨Rect.unit ![0, 8, 0, 0] ![1, 1, 64, 64] inb_S1x10x64x64_S1x1x64x64_0_8_0_0, chanOf R ![512, 0] slices_S704x64_o512_0_S64x64⟩,
   ⟨Rect.unit ![0, 7, 0, 0] ![1, 1, 64, 64] inb_S1x10x64x64_S1x1x64x64_0_7_0_0, chanOf R ![448, 0] slices_S704x64_o448_0_S64x64⟩,
   ⟨Rect.unit ![0, 6, 0, 0] ![1, 1, 64, 64] inb_S1x10x64x64_S1x1x64x64_0_6_0_0, chanOf R ![384, 0] slices_S704x64_o384_0_S64x64⟩,
   ⟨Rect.unit ![0, 5, 0, 0] ![1, 1, 64, 64] inb_S1x10x64x64_S1x1x64x64_0_5_0_0, chanOf R ![320, 0] slices_S704x64_o320_0_S64x64⟩,
   ⟨Rect.unit ![0, 4, 0, 0] ![1, 1, 64, 64] inb_S1x10x64x64_S1x1x64x64_0_4_0_0, chanOf R ![256, 0] slices_S704x64_o256_0_S64x64⟩,
   ⟨Rect.unit ![0, 3, 0, 0] ![1, 1, 64, 64] inb_S1x10x64x64_S1x1x64x64_0_3_0_0, chanOf R ![192, 0] slices_S704x64_o192_0_S64x64⟩,
   ⟨Rect.unit ![0, 2, 0, 0] ![1, 1, 64, 64] inb_S1x10x64x64_S1x1x64x64_0_2_0_0, chanOf R ![128, 0] slices_S704x64_o128_0_S64x64⟩,
   ⟨Rect.unit ![0, 1, 0, 0] ![1, 1, 64, 64] inb_S1x10x64x64_S1x1x64x64_0_1_0_0, chanOf R ![64, 0] slices_S704x64_o64_0_S64x64⟩,
   ⟨Rect.unit ![0, 0, 0, 0] ![1, 1, 64, 64] inb_S1x10x64x64_S1x1x64x64_0_0_0_0, chanOf R ![0, 0] slices_S704x64_o0_0_S64x64⟩]
def poolPieces : List (View.Piece (Elt F) S1x1x64x64 .f32) :=
  [⟨Rect.unit ![0, 0, 0, 0] ![1, 1, 64, 64] inb_S1x1x64x64_S1x1x64x64_0_0_0_0, chanOf R ![640, 0] slices_S704x64_o640_0_S64x64⟩]

end Store

section Found
variable (c : Dev nD) (t : Fin cfg0.N) (x : MBuf (F := F) c xM)

/-- The slabs of the block at point `t`, as the body loads them. -/
def slabs : Fin 8 → Slab F := fun s => shapeCast S64x512
  (![runLast.sl.v61 c t x, runLast.sl.v64 c t x, runLast.sl.v67 c t x, runLast.sl.v70 c t x,
    runLast.sl.v73 c t x, runLast.sl.v76 c t x, runLast.sl.v79 c t x, runLast.sl.v82 c t x] s : Vec F S1x1x64x512 .f32) shapeCasts_S1x1x64x512_S64x512

theorem last_block : runLast.sl.r_280 c t x = block (slabs c t x) := by sl_kernel_rfl

/-- Whichever case the point is in, its pieces are the channels of the block's result. -/
theorem pieces_eq : pieces c x t = (histPieces (block (slabs c t x)), poolPieces (block (slabs c t x))) := by
  by_cases h0 : first (grid0.coords t) <;> by_cases h1 : more (grid0.coords t)
  · rw [pieces_first c x t h0 h1]; sl_kernel_rfl
  · exact (no_lone t h0 h1).elim
  · rw [pieces_mid c x t h0 h1]; sl_kernel_rfl
  · rw [pieces_last c x t h0 h1]; sl_kernel_rfl

end Found

end Cert.KernelIdeal.Hog
end
-- ==== Proof.Slab.lean ====
/-
  The slabs the body loads, at an index: slab `s` of point `t` holds rows `8 r + s` of the image plane the point is at.
-/
module

public import proofs.«01_k».proof.Proof.Block
public import Idealize.ShloMosaic.Lib.Pointwise

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic

variable {F : FTy → Type} [FloatOps F]
variable (c : Dev nD) (t : Fin cfg0.N) (x : MBuf (F := F) c xM)

/-- A load of a slot's part is what landed there. -/
theorem load_landed (s : Fin 2) (w : Fin 8) (b : Fin 24) (o : Fin 4 → ℕ) (ho : o = ![s.val, w.val, 0, 0])
    (h : ∀ a, o a + S1x1x64x512.size a ≤ S2x8x64x512.size a) :
    (shapeCast S64x512 (scM.view.readAt (Elt F) (Rect.unit (s := S2x8x64x512) o S1x1x64x512.size h).toLoadRect (landed c x s b w) : Vec F S1x1x64x512 .f32) shapeCasts_S1x1x64x512_S64x512 : Slab F)
      = (srcB b w).view.read (Elt F) x := by
  subst ho
  show (rwin s w).view.read (Elt F) (landed c x s b w) = _
  funext i
  have := View.read_writes_cons_emb (Val := Elt F) (rwin s w).view (rwin s w).view.junk (Rect.whole S64x512) (ReadAs.same.apply ((srcB b w).view.read (Elt F) x)) [] i
  have e : (Rect.whole S64x512).emb i = i := by
    funext a; apply Fin.ext; simp [Rect.whole, Rect.emb]
  rw [e] at this
  exact this

/-- What a slab's slice of the image array reads at an index. -/
theorem src_apply (w : Fin 8) (b : Fin 24) (r : Fin 64) (j : Fin 512) :
    (srcB b w).view.read (Elt F) x (ix2 r j) = x (ix5 ⟨b.val / 3, by omega⟩ ⟨b.val % 3, by omega⟩ r w j) := by
  have e : Shape.reshapeEquiv (s := S1x1x64x1x512) (s' := S64x512) squeezes_S1x1x64x1x512_S64x512.numel_eq (ix2 r j) = ix5 0 0 r 0 j :=
    Shape.reshapeEquiv_eq_of_rowMajor _ (by
      rw [Shape.rowMajor_val_five, Shape.rowMajor_val_two]
      show ((((0 * 1 + 0) * 64 + r.val) * 1 + 0) * 512 + j.val) = r.val * 512 + j.val
      omega)
  show x ((Rect.unit (s := S8x3x64x8x512) ![(b.val / 3), (b.val % 3), 0, w.val, 0] S1x1x64x1x512.size (inb_src b w)).emb
    (Shape.reshapeEquiv (s := S1x1x64x1x512) (s' := S64x512) squeezes_S1x1x64x1x512_S64x512.numel_eq (ix2 r j))) = _
  rw [e]
  refine congrArg x (funext fun a => Fin.ext ?_)
  match a with
  | ⟨0, _⟩ => exact Nat.add_zero _
  | ⟨1, _⟩ => exact Nat.add_zero _
  | ⟨2, _⟩ => show 0 + 1 * r.val = r.val; omega
  | ⟨3, _⟩ => exact Nat.add_zero _
  | ⟨4, _⟩ => show 0 + 1 * j.val = j.val; omega

/-- Each slab is a load of the point's slot. -/
theorem slabs_load (s : Fin 8) : ∃ (o : Fin 4 → ℕ) (ho : o = ![(Ring.sl 2 t.val).val, s.val, 0, 0]) (h : ∀ a, o a + S1x1x64x512.size a ≤ S2x8x64x512.size a),
    slabs c t x s = (shapeCast S64x512 (scM.view.readAt (Elt F) (Rect.unit (s := S2x8x64x512) o S1x1x64x512.size h).toLoadRect (landed c x (Ring.sl 2 t.val) (Ring.bk 24 t.val) s) : Vec F S1x1x64x512 .f32) shapeCasts_S1x1x64x512_S64x512 : Slab F) := by
  have h := off_load t
  match s with
  | 0 => exact ⟨k0_off52 (grid0.coords t), h 0, k0_off52_inb (grid0.coords t), by sl_kernel_rfl⟩
  | 1 => exact ⟨k0_off53 (grid0.coords t), h 1, k0_off53_inb (grid0.coords t), by sl_kernel_rfl⟩
  | 2 => exact ⟨k0_off54 (grid0.coords t), h 2, k0_off54_inb (grid0.coords t), by sl_kernel_rfl⟩
  | 3 => exact ⟨k0_off55 (grid0.coords t), h 3, k0_off55_inb (grid0.coords t), by sl_kernel_rfl⟩
  | 4 => exact ⟨k0_off56 (grid0.coords t), h 4, k0_off56_inb (grid0.coords t), by sl_kernel_rfl⟩
  | 5 => exact ⟨k0_off57 (grid0.coords t), h 5, k0_off57_inb (grid0.coords t), by sl_kernel_rfl⟩
  | 6 => exact ⟨k0_off58 (grid0.coords t), h 6, k0_off58_inb (grid0.coords t), by sl_kernel_rfl⟩
  | 7 => exact ⟨k0_off59 (grid0.coords t), h 7, k0_off59_inb (grid0.coords t), by sl_kernel_rfl⟩

/-- The slabs, at an index. -/
theorem slabs_apply (s : Fin 8) (r : Fin 64) (j : Fin 512) :
    slabs c t x s (ix2 r j) = x (ix5 ⟨(Ring.bk 24 t.val).val / 3, by omega⟩ ⟨(Ring.bk 24 t.val).val % 3, by omega⟩ r s j) := by
  obtain ⟨o, ho, h, e⟩ := slabs_load c t x s
  rw [e, load_landed c x (Ring.sl 2 t.val) s (Ring.bk 24 t.val) o ho h]
  exact src_apply c x s (Ring.bk 24 t.val) r j

end Cert.KernelIdeal.Hog
end
-- ==== Proof.Outs.lean ====
/-
  What a point leaves in the two outputs' blocks, at an index: the rows of the block's result, channel by channel.
-/
module

public import proofs.«01_k».proof.Proof.Slab
public import Idealize.ShloMosaic.Lib.Pipeline.ValueKit

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic

variable {F : FTy → Type} [FloatOps F]

/-- A stored channel, at an index: a row of the result. -/
theorem chanOf_apply (R : FVec F S704x64 .f32) (k : ℕ) (h : S704x64.Slices ![k, 0] S64x64) (x : S1x1x64x64.Idx) (i : Fin 704) (r q : Fin 64)
    (hr : (x 2).val = r.val) (hq : (x 3).val = q.val) (hi : i.val = k + r.val) :
    chanOf R ![k, 0] h x = R (ix2 i q) := by
  unfold chanOf
  refine (shapeCast_apply _ _ x (ix2 r q) (by
    rw [Shape.rowMajor_val_two, Shape.rowMajor_val_four]
    have h0 : (x 0).val < 1 := (x 0).isLt
    have h1 : (x 1).val < 1 := (x 1).isLt
    show r.val * 64 + q.val = (((x 0).val * 1 + (x 1).val) * 64 + (x 2).val) * 64 + (x 3).val
    omega)).trans ?_
  refine extractStridedSlice_apply _ _ _ _ _ fun a => ?_
  match a with
  | ⟨0, _⟩ => exact hi
  | ⟨1, _⟩ => exact (Nat.zero_add _).symm

/-- The pieces of the histogram are one channel each. -/
theorem mem_histPieces (R : FVec F S704x64 .f32) (p : View.Piece (Elt F) S1x10x64x64 .f32) (hp : p ∈ histPieces R) :
    ∃ (b : Fin 10) (i : ∀ a, (![0, b.val, 0, 0] : Fin 4 → ℕ) a + (![1, 1, 64, 64] : Fin 4 → ℕ) a ≤ S1x10x64x64.size a) (h : S704x64.Slices ![64 * b.val, 0] S64x64),
      p = ⟨Rect.unit (s := S1x10x64x64) ![0, b.val, 0, 0] ![1, 1, 64, 64] i, chanOf R ![64 * b.val, 0] h⟩ := by
  simp only [histPieces, List.mem_cons, List.mem_nil_iff, or_false] at hp
  rcases hp with rfl | rfl | rfl | rfl | rfl | rfl | rfl | rfl | rfl | rfl
  · exact ⟨9, _, slices_S704x64_o576_0_S64x64, rfl⟩
  · exact ⟨8, _, slices_S704x64_o512_0_S64x64, rfl⟩
  · exact ⟨7, _, slices_S704x64_o448_0_S64x64, rfl⟩
  · exact ⟨6, _, slices_S704x64_o384_0_S64x64, rfl⟩
  · exact ⟨5, _, slices_S704x64_o320_0_S64x64, rfl⟩
  · exact ⟨4, _, slices_S704x64_o256_0_S64x64, rfl⟩
  · exact ⟨3, _, slices_S704x64_o192_0_S64x64, rfl⟩
  · exact ⟨2, _, slices_S704x64_o128_0_S64x64, rfl⟩
  · exact ⟨1, _, slices_S704x64_o64_0_S64x64, rfl⟩
  · exact ⟨0, _, slices_S704x64_o0_0_S64x64, rfl⟩

variable (c : Dev nD) (t : Fin cfg0.N) (x : MBuf (F := F) c xM)

/-- The histogram's block at an index. -/
theorem outHist_apply (y : S1x10x64x64.Idx) (i : Fin 704) (r q : Fin 64)
    (hr : (y 2).val = r.val) (hq : (y 3).val = q.val) (hi : i.val = 64 * (y 1).val + r.val) :
    outHist c x t y = block (slabs c t x) (ix2 i q) := by
  have hc := cover_hist (F := F) c x t y
  unfold outHist
  rw [View.read_writes_junk_eq_canon]
  rw [pieces_eq (F := F) c t x] at hc ⊢
  refine View.canon_eq_of_allAt _ y _ hc fun p hp z hz => ?_
  obtain ⟨b, hb, h, rfl⟩ := mem_histPieces _ p hp
  have hz1 : (y 1).val = b.val + 1 * (z 1).val := by rw [← hz]; rfl
  have hz2 : (y 2).val = 0 + 1 * (z 2).val := by rw [← hz]; rfl
  have hz3 : (y 3).val = 0 + 1 * (z 3).val := by rw [← hz]; rfl
  have z1 : (z 1).val < 1 := (z 1).isLt
  exact chanOf_apply (block (slabs c t x)) _ h z i r q (by omega) (by omega) (by omega)

/-- The pooled image's block at an index. -/
theorem outPool_apply (y : S1x1x64x64.Idx) (i : Fin 704) (r q : Fin 64)
    (hr : (y 2).val = r.val) (hq : (y 3).val = q.val) (hi : i.val = 640 + r.val) :
    outPool c x t y = block (slabs c t x) (ix2 i q) := by
  have hc := cover_pool (F := F) c x t y
  unfold outPool
  rw [View.read_writes_junk_eq_canon]
  rw [pieces_eq (F := F) c t x] at hc ⊢
  refine View.canon_eq_of_allAt _ y _ hc fun p hp z hz => ?_
  obtain rfl := List.mem_singleton.mp hp
  have hz2 : (y 2).val = 0 + 1 * (z 2).val := by rw [← hz]; rfl
  have hz3 : (y 3).val = 0 + 1 * (z 3).val := by rw [← hz]; rfl
  exact chanOf_apply (block (slabs c t x)) _ slices_S704x64_o640_0_S64x64 z i r q (by omega) (by omega) hi

end Cert.KernelIdeal.Hog
end
-- ==== Proof.Bins.lean ====
/-
  The bins over the reals: where the angle of a gradient falls among the ten bins, by the angle itself and by the nine
  sign tests on the gradient against the edges' cotangents, and why the two agree off the edges.
-/
module

public import Idealize.ShloMosaic.Lib.Pointwise
public import Mathlib.Analysis.SpecialFunctions.Trigonometric.Arctan

@[expose] public section

noncomputable section

namespace Cert.Bins

open Real

/-! ## The edges -/

/-- The first four edges' cotangents, the others by symmetry. -/
def c1 : ℝ := 12908740 / 2 ^ 22
def c2 : ℝ := 11545928 / 2 ^ 23
def c3 : ℝ := 12189361 / 2 ^ 24
def c4 : ℝ := 10902496 / 2 ^ 25
def margin : ℝ := 1 / 2 ^ 23
def cot : Fin 9 → ℝ := ![c1, c2, c3, c4, 0, -c4, -c3, -c2, -c1]

theorem sqrt5_bounds : (2.2360679774997 : ℝ) < √5 ∧ √5 < 2.2360679774998 :=
  ⟨Real.lt_sqrt_of_sq_lt (by norm_num), (Real.sqrt_lt' (by norm_num)).2 (by norm_num)⟩

/-- A tangent within the margin of a constant, from its cosine. -/
theorem tan_near {θ c : ℝ} (h0 : 0 < θ) (h1 : θ < π / 2) (hc : margin < c)
    (hlo : (c - margin) ^ 2 * cos θ ^ 2 < 1 - cos θ ^ 2) (hhi : 1 - cos θ ^ 2 < (c + margin) ^ 2 * cos θ ^ 2) :
    |c - tan θ| < margin := by
  have hcos : 0 < cos θ := Real.cos_pos_of_mem_Ioo ⟨by linarith, h1⟩
  have ht : 0 < tan θ := Real.tan_pos_of_pos_of_lt_pi_div_two h0 h1
  have hsq : tan θ ^ 2 * cos θ ^ 2 = 1 - cos θ ^ 2 := by
    rw [Real.tan_eq_sin_div_cos, div_pow, div_mul_cancel₀ _ (by positivity), Real.sin_sq]
  have hm : 0 < margin := by norm_num [margin]
  have hp : 0 < cos θ ^ 2 := by positivity
  rw [← hsq] at hlo hhi
  have a := lt_of_mul_lt_mul_right hlo hp.le
  have b := lt_of_mul_lt_mul_right hhi hp.le
  have a' := lt_of_pow_lt_pow_left₀ 2 ht.le a
  have b' := lt_of_pow_lt_pow_left₀ 2 (by linarith) b
  rw [abs_lt]; constructor <;> linarith

theorem cos_two_fifths : cos (2 * π / 5) = (√5 - 1) / 4 := by
  have h : (2 * π / 5) = 2 * (π / 5) := by ring
  have s : √5 * √5 = 5 := Real.mul_self_sqrt (by norm_num)
  rw [h, Real.cos_two_mul, Real.cos_pi_div_five]; nlinarith

theorem near1 : |c1 - tan (4 * π / 10)| < margin := by
  have e : 4 * π / 10 = 2 * π / 5 := by ring
  have p := Real.pi_pos
  have s : √5 ^ 2 = 5 := Real.sq_sqrt (by norm_num)
  obtain ⟨l, u⟩ := sqrt5_bounds
  rw [e]
  apply tan_near (by positivity) (by linarith) (by norm_num [c1, margin]) <;>
  · rw [cos_two_fifths, div_pow, sub_sq √5, s]; norm_num [c1, margin]; linarith

theorem near3 : |c3 - tan (2 * π / 10)| < margin := by
  have e : 2 * π / 10 = π / 5 := by ring
  have p := Real.pi_pos
  have s : √5 ^ 2 = 5 := Real.sq_sqrt (by norm_num)
  obtain ⟨l, u⟩ := sqrt5_bounds
  rw [e]
  apply tan_near (by positivity) (by linarith) (by norm_num [c3, margin]) <;>
  · rw [Real.cos_pi_div_five, div_pow, add_sq 1, s]; norm_num [c3, margin]; linarith

theorem near2 : |c2 - tan (3 * π / 10)| < margin := by
  have e : cos (3 * π / 10) ^ 2 = (5 - √5) / 8 := by
    rw [Real.cos_sq, show 2 * (3 * π / 10) = π - 2 * π / 5 by ring, Real.cos_pi_sub, cos_two_fifths]; ring
  have p := Real.pi_pos
  obtain ⟨l, u⟩ := sqrt5_bounds
  apply tan_near (by positivity) (by linarith) (by norm_num [c2, margin]) <;>
  · rw [e]; norm_num [c2, margin]; linarith

theorem near4 : |c4 - tan (1 * π / 10)| < margin := by
  have e : cos (1 * π / 10) ^ 2 = (5 + √5) / 8 := by
    rw [Real.cos_sq, show 2 * (1 * π / 10) = π / 5 by ring, Real.cos_pi_div_five]; ring
  have p := Real.pi_pos
  obtain ⟨l, u⟩ := sqrt5_bounds
  apply tan_near (by positivity) (by linarith) (by norm_num [c4, margin]) <;>
  · rw [e]; norm_num [c4, margin]; linarith

/-- A slope off an edge's constant lies on the same side of the constant as of the edge. -/
theorem same_side {u c t : ℝ} (hc : margin < c) (h : margin ≤ abs (c - abs u)) (ht : |c - t| < margin) :
    ((u ≤ c ↔ u ≤ t) ∧ (u < c ↔ u < t)) ∧ ((u ≤ -c ↔ u ≤ -t) ∧ (u < -c ↔ u < -t)) := by
  rw [abs_lt] at ht
  have hm : 0 < margin := by norm_num [margin]
  rcases abs_cases u with ⟨e, h0⟩ | ⟨e, h0⟩ <;> rw [e] at h <;>
    rcases le_abs.1 h with h | h <;>
    refine ⟨⟨⟨fun k => ?_, fun k => ?_⟩, ⟨fun k => ?_, fun k => ?_⟩⟩, ⟨⟨fun k => ?_, fun k => ?_⟩, ⟨fun k => ?_, fun k => ?_⟩⟩⟩ <;> linarith

/-- The gradient lies off the edges. -/
def Off (a b : ℝ) : Prop :=
  |a| * margin ≤ abs (|a| * c1 - |b|) ∧ |a| * margin ≤ abs (|a| * c2 - |b|) ∧ |a| * margin ≤ abs (|a| * c3 - |b|) ∧ |a| * margin ≤ abs (|a| * c4 - |b|)

theorem slope_off {a b c : ℝ} (ha : a ≠ 0) (h : |a| * margin ≤ abs (|a| * c - |b|)) : margin ≤ abs (c - abs (b / a)) := by
  have hp : 0 < |a| := abs_pos.2 ha
  have e : |a| * c - |b| = |a| * (c - |b / a|) := by rw [abs_div]; field_simp
  rw [e, abs_mul, abs_abs] at h
  exact le_of_mul_le_mul_left h hp

/-- On every edge, the sign test and the angle agree. -/
theorem edge {a b : ℝ} (ha : a ≠ 0) (h : Off a b) (k : Fin 9) :
    (b / a ≤ cot k ↔ b / a ≤ tan ((4 - (k.val : ℝ)) * π / 10)) ∧ (b / a < cot k ↔ b / a < tan ((4 - (k.val : ℝ)) * π / 10)) := by
  obtain ⟨h1, h2, h3, h4⟩ := h
  have s1 := same_side (by norm_num [c1, margin]) (slope_off ha h1) near1
  have s2 := same_side (by norm_num [c2, margin]) (slope_off ha h2) near2
  have s3 := same_side (by norm_num [c3, margin]) (slope_off ha h3) near3
  have s4 := same_side (by norm_num [c4, margin]) (slope_off ha h4) near4
  rw [← Real.tan_neg] at s1 s2 s3 s4
  have e1 : -(4 * π / 10) = (4 - 8) * π / 10 := by ring
  have e2 : -(3 * π / 10) = (4 - 7) * π / 10 := by ring
  have e3 : -(2 * π / 10) = (4 - 6) * π / 10 := by ring
  have e4 : -(1 * π / 10) = (4 - 5) * π / 10 := by ring
  have f1 : (4 * π / 10) = (4 - 0) * π / 10 := by ring
  have f2 : (3 * π / 10) = (4 - 1) * π / 10 := by ring
  have f3 : (2 * π / 10) = (4 - 2) * π / 10 := by ring
  have f4 : (1 * π / 10) = (4 - 3) * π / 10 := by ring
  rw [e1, f1] at s1; rw [e2, f2] at s2; rw [e3, f3] at s3; rw [e4, f4] at s4
  fin_cases k
  · simpa [cot] using s1.1
  · simpa [cot] using s2.1
  · simpa [cot] using s3.1
  · simpa [cot] using s4.1
  · simp [cot]
  · simpa [cot] using s4.2
  · simpa [cot] using s3.2
  · simpa [cot] using s2.2
  · simpa [cot] using s1.2

/-! ## The pixel, by the sign tests -/

def Neg (a b : ℝ) : Prop := a < 0 ∨ (a = 0 ∧ b < 0)
open Classical in
def flip (a b x : ℝ) : ℝ := if Neg a b then -x else x
def mag (a b : ℝ) : ℝ := √(a * a + b * b)
def om (a b : ℝ) : ℝ := 1 - mag a b
def cross (a b : ℝ) (k : Fin 9) : ℝ := flip a b a * cot k - flip a b b
open Classical in
def pa (a b : ℝ) (k : Fin 9) : ℝ := if 0 ≤ cross a b k then mag a b else 0
open Classical in
def pb (a b : ℝ) (k : Fin 9) : ℝ := if 0 < cross a b k ∨ a = 0 then om a b else 0
def pas (a b : ℝ) : Fin 11 → ℝ := ![mag a b, pa a b 0, pa a b 1, pa a b 2, pa a b 3, pa a b 4, pa a b 5, pa a b 6, pa a b 7, pa a b 8, 0]
def pbs (a b : ℝ) : Fin 11 → ℝ := ![om a b, pb a b 0, pb a b 1, pb a b 2, pb a b 3, pb a b 4, pb a b 5, pb a b 6, pb a b 7, pb a b 8, 0]
def chan (a b : ℝ) (n : Fin 10) : ℝ :=
  (pas a b n.castSucc - pas a b n.succ) + (pbs a b (n + 9).castSucc - pbs a b (n + 9).succ)

/-! ## The pixel, by the angle -/

open Classical in
/-- The angle of the gradient, `y` the first response. -/
def angle (y x : ℝ) : ℝ :=
  if 0 < x then arctan (y / x) else if x < 0 then (if 0 ≤ y then arctan (y / x) + π else arctan (y / x) - π)
  else if 0 < y then π / 2 else if y < 0 then -(π / 2) else 0
def phase (a b : ℝ) : ℝ := angle a b / π * 10
def ref (a b : ℝ) (n : Fin 10) : ℝ :=
  (if ⌊phase a b⌋ % 10 = (n.val : ℤ) then 1 else 0) * mag a b + (if ⌈phase a b⌉ % 10 = (n.val : ℤ) then 1 else 0) * (1 - mag a b)

/-- The angle of a gradient with a response along the first axis, by the slope. -/
theorem angle_of_pos {a b : ℝ} (ha : 0 < a) : angle a b = π / 2 - arctan (b / a) := by
  unfold angle
  rcases lt_trichotomy b 0 with hb | hb | hb
  · rw [if_neg hb.le.not_gt, if_pos hb, if_pos ha.le,
      show a / b = (b / a)⁻¹ by rw [inv_div], Real.arctan_inv_of_neg (div_neg_of_neg_of_pos hb ha)]; ring
  · subst hb; simp [ha]
  · rw [if_pos hb, show a / b = (b / a)⁻¹ by rw [inv_div], Real.arctan_inv_of_pos (div_pos hb ha)]

theorem angle_of_neg {a b : ℝ} (ha : a < 0) : angle a b = π / 2 - arctan (b / a) - π := by
  unfold angle
  rcases lt_trichotomy b 0 with hb | hb | hb
  · rw [if_neg hb.le.not_gt, if_pos hb, if_neg ha.not_ge, show a / b = (b / a)⁻¹ by rw [inv_div],
      Real.arctan_inv_of_pos (div_pos_of_neg_of_neg hb ha)]
  · subst hb; simp [ha, ha.le.not_gt]; ring
  · rw [if_pos hb, show a / b = (b / a)⁻¹ by rw [inv_div], Real.arctan_inv_of_neg (div_neg_of_pos_of_neg hb ha)]; ring

/-- The bins in which the floor and the ceiling fall: the sign tests up to them hold and those past them fail. -/
theorem bins {a b : ℝ} (h : Off a b) : ∃ N M : ℤ, 0 ≤ N ∧ N ≤ 9 ∧ 1 ≤ M ∧ M ≤ 10 ∧ ⌊phase a b⌋ % 10 = N ∧ ⌈phase a b⌉ % 10 = M % 10
    ∧ (∀ k : Fin 9, pa a b k = if (k.val : ℤ) + 1 ≤ N then mag a b else 0)
    ∧ (∀ k : Fin 9, pb a b k = if (k.val : ℤ) + 1 < M then om a b else 0) := by
  have hpi := Real.pi_pos
  by_cases ha : a = 0
  · subst ha
    have hoff : ∀ k : Fin 9, pb 0 b k = if (k.val : ℤ) + 1 < 10 then om 0 b else 0 := fun k => by
      have := k.isLt
      rw [pb, if_pos (Or.inr rfl), if_pos (by omega)]
    have hph : phase 0 b = 0 ∨ phase 0 b = 10 := by
      unfold phase angle
      rcases lt_trichotomy b 0 with hb | hb | hb
      · right; rw [if_neg hb.le.not_gt, if_pos hb, if_pos le_rfl]; simp [hpi.ne']
      · left; subst hb; simp
      · left; simp [hb]
    refine ⟨0, 10, by norm_num, by norm_num, by norm_num, by norm_num, ?_, ?_, fun k => ?_, hoff⟩
    · rcases hph with e | e <;> rw [e] <;> norm_num
    · rcases hph with e | e <;> rw [e] <;> norm_num
    · rw [if_neg (by omega)]
      unfold pa
      by_cases hb : b = 0
      · subst hb; simp [mag]
      · have hc : cross 0 b k = -|b| := by
          unfold cross flip Neg
          rcases lt_or_gt_of_ne hb with hb | hb
          · simp [hb, abs_of_neg hb]
          · simp [hb.le.not_gt, abs_of_pos hb]
        rw [if_neg]; rw [hc]; have := abs_pos.2 hb; linarith
  · have hcross : ∀ k, cross a b k = |a| * (cot k - b / a) := fun k => by
      unfold cross flip Neg
      rcases lt_or_gt_of_ne ha with h | h
      · rw [if_pos (Or.inl h), if_pos (Or.inl h), abs_of_neg h]; field_simp; ring
      · rw [if_neg (by rintro (h' | ⟨h', _⟩) <;> linarith), if_neg (by rintro (h' | ⟨h', _⟩) <;> linarith), abs_of_pos h]; field_simp
    have hp : 0 < |a| := abs_pos.2 ha
    set q : ℝ := 5 - arctan (b / a) / π * 10 with hq
    have hlo := Real.neg_pi_div_two_lt_arctan (b / a)
    have hhi := Real.arctan_lt_pi_div_two (b / a)
    have e1 : arctan (b / a) / π * 10 < 5 := by rw [div_mul_eq_mul_div, div_lt_iff₀ hpi]; linarith
    have e2 : -5 < arctan (b / a) / π * 10 := by rw [div_mul_eq_mul_div, lt_div_iff₀ hpi]; linarith
    have hph : phase a b = q ∨ phase a b = q - (10 : ℤ) := by
      unfold phase
      rcases lt_or_gt_of_ne ha with h | h
      · right; rw [angle_of_neg h, hq]; push_cast; field_simp; ring
      · left; rw [angle_of_pos h, hq]; field_simp; ring
    have hle : ∀ k : Fin 9, 0 ≤ cross a b k ↔ (k.val : ℤ) + 1 ≤ ⌊q⌋ := fun k => by
      have hk : (k.val : ℝ) ≤ 8 := by exact_mod_cast Nat.le_of_lt_succ k.isLt
      have hk0 : (0 : ℝ) ≤ k.val := by positivity
      rw [hcross, mul_nonneg_iff_of_pos_left hp, sub_nonneg, (edge ha h k).1, Int.le_floor]
      rw [← Real.arctan_strictMono.le_iff_le, Real.arctan_tan (by nlinarith) (by nlinarith), hq]
      push_cast
      rw [le_sub_comm, div_mul_eq_mul_div, div_le_iff₀ hpi]
      constructor <;> intro <;> linarith
    have hlt : ∀ k : Fin 9, 0 < cross a b k ↔ (k.val : ℤ) + 1 < ⌈q⌉ := fun k => by
      have hk : (k.val : ℝ) ≤ 8 := by exact_mod_cast Nat.le_of_lt_succ k.isLt
      have hk0 : (0 : ℝ) ≤ k.val := by positivity
      rw [hcross, mul_pos_iff_of_pos_left hp, sub_pos, (edge ha h k).2, Int.lt_ceil]
      rw [← Real.arctan_strictMono.lt_iff_lt, Real.arctan_tan (by nlinarith) (by nlinarith), hq]
      push_cast
      rw [lt_sub_comm, div_mul_eq_mul_div, div_lt_iff₀ hpi]
      constructor <;> intro <;> linarith
    have n0 : 0 ≤ ⌊q⌋ := Int.floor_nonneg.2 (by linarith)
    have n1 : ⌊q⌋ < 10 := Int.floor_lt.2 (by push_cast; linarith)
    have m0 : 0 < ⌈q⌉ := Int.ceil_pos.2 (by linarith)
    have m1 : ⌈q⌉ ≤ 10 := Int.ceil_le.2 (by push_cast; linarith)
    refine ⟨⌊q⌋, ⌈q⌉, n0, by omega, by omega, m1, ?_, ?_, fun k => ?_, fun k => ?_⟩
    · rcases hph with e | e <;> rw [e]
      · omega
      · rw [Int.floor_sub_intCast]; omega
    · rcases hph with e | e <;> rw [e]
      rw [Int.ceil_sub_intCast]; omega
    · unfold pa; simp only [hle]
    · unfold pb; simp only [hlt, ha, or_false]

/-- **Off the edges the sign tests and the angle give the same pixel.** -/
theorem chan_eq {a b : ℝ} (h : Off a b) (n : Fin 10) : chan a b n = ref a b n := by
  obtain ⟨N, M, n0, n1, m0, m1, hN, hM, hA, hB⟩ := bins h
  unfold ref chan
  rw [hN, hM]
  have hA' : ∀ i : Fin 11, pas a b i = if (i.val : ℤ) ≤ N then mag a b else 0 := fun i => by
    fin_cases i <;> simp [pas, hA] <;> intros <;> omega
  have hB' : ∀ i : Fin 11, pbs a b i = if (i.val : ℤ) < M then om a b else 0 := fun i => by
    fin_cases i <;> simp [pbs, hB] <;> intros <;> omega
  rw [hA', hA', hB', hB', om]
  have hn := n.isLt
  have hv : ((n + 9 : Fin 10).val : ℤ) = (n.val + 9) % 10 := by rw [Fin.val_add]; rfl
  simp only [Fin.val_castSucc, Fin.val_succ, Nat.cast_add, Nat.cast_one, hv]
  have e1 : (n.val : ℤ) ≤ N ∧ ¬ ((n.val : ℤ) + 1 ≤ N) ↔ N = (n.val : ℤ) := by omega
  have e2 : ((n.val : ℤ) + 9) % 10 < M ∧ ¬ (((n.val : ℤ) + 9) % 10 + 1 < M) ↔ M % 10 = (n.val : ℤ) := by omega
  by_cases p1 : (n.val : ℤ) ≤ N <;> by_cases p2 : (n.val : ℤ) + 1 ≤ N <;>
    by_cases p3 : ((n.val : ℤ) + 9) % 10 < M <;> by_cases p4 : ((n.val : ℤ) + 9) % 10 + 1 < M <;>
    first
    | omega
    | (simp only [p1, p2, p3, p4, true_and, false_and, not_true, not_false_eq_true, true_iff, false_iff] at e1 e2
       simp [p1, p2, p3, p4, e1, e2])

/-- The angle in bins lies within a turn. -/
theorem phase_mem (a b : ℝ) : -10 ≤ phase a b ∧ phase a b ≤ 10 := by
  have hpi := Real.pi_pos
  have h : -π ≤ angle a b ∧ angle a b ≤ π := by
    have l := Real.neg_pi_div_two_lt_arctan (a / b)
    have u := Real.arctan_lt_pi_div_two (a / b)
    unfold angle
    split_ifs with h1 h2 h3 h4 h5
    · constructor <;> linarith
    · have e := Real.arctan_strictMono.monotone (div_nonpos_of_nonneg_of_nonpos h3 h2.le)
      rw [Real.arctan_zero] at e; constructor <;> linarith
    · have e := Real.arctan_strictMono.monotone (div_nonneg_of_nonpos (not_le.1 h3).le h2.le)
      rw [Real.arctan_zero] at e; constructor <;> linarith
    all_goals constructor <;> linarith
  unfold phase
  constructor
  · rw [div_mul_eq_mul_div, le_div_iff₀ hpi]; linarith
  · rw [div_mul_eq_mul_div, div_le_iff₀ hpi]; linarith

end Cert.Bins
end
-- ==== Proof.Pix.lean ====
/-
  A block's arithmetic over the reals. The eight slabs hold one plane of the image; each step of the body is a function of
  that plane, pixel by pixel, and the eleven channels pool to means over squares of eight by eight pixels.
-/
module

public import proofs.«01_k».proof.Proof.Slab
public import proofs.«01_k».proof.Proof.Bins

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Cert (Bins.cot Bins.mag)

/-! ## Constants and selections -/

theorem word_two : Ideal.ofBits .f32 0x40000000#32 = ((2 : ℝ) : EReal) := by
  simp [Ideal.ofBits, Ideal.ieee, -EReal.coe_mul]; norm_num
theorem word_eight : Ideal.ofBits .f32 0x41000000#32 = ((8 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_cot (k : Fin 9) : Ideal.ofBits .f32 (cots k) = ((Bins.cot k : ℝ) : EReal) := by
  fin_cases k <;> simp [cots, Bins.cot, Bins.c1, Bins.c2, Bins.c3, Bins.c4, Ideal.ofBits, Ideal.ieee, -EReal.coe_mul, -EReal.coe_neg] <;> norm_num

theorem select_bool {α : Type} (P : Prop) [Decidable P] (x y : α) : Scalar.select (BitVec.ofBool (decide P)) x y = if P then x else y := by
  by_cases h : P <;> simp [h, Scalar.select]
theorem ori_bool (P Q : Prop) [Decidable P] [Decidable Q] :
    IntOp.ori (BitVec.ofBool (decide P)) (BitVec.ofBool (decide Q)) = BitVec.ofBool (decide (P ∨ Q)) := by
  by_cases h : P <;> by_cases h' : Q <;> simp [h, h', IntOp.ori]
theorem andi_bool (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]
theorem coe_ite (P : Prop) [Decidable P] (x y : ℝ) : (if P then (x : EReal) else (y : EReal)) = ((if P then x else y : ℝ) : EReal) := by
  split <;> rfl
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-! ## Slabs holding a plane -/

/-- The slabs hold the plane `f`: row `r` of slab `s` is row `8 r + s`. -/
def Sl (Y : Fin 8 → Slab Ideal) (f : ℤ → ℤ → ℝ) : Prop :=
  ∀ (s : Fin 8) (r : Fin 64) (j : Fin 512), Y s (ix2 r j) = ((f (8 * r.val + s.val) j.val : ℝ) : EReal)

section Moves
variable {Y : Fin 8 → Slab Ideal} {f : ℤ → ℤ → ℝ}

theorem Sl.congr {g : ℤ → ℤ → ℝ} (h : Sl Y f) (e : ∀ i j : ℤ, f i j = g i j) : Sl Y g := fun s r j => by rw [h, e]

theorem Sl.above (h : Sl Y f) (hz : ∀ j, f (-1) j = 0) : Sl (above Y) (fun i j => f (i - 1) j) := by
  intro s r j
  refine Fin.cases ?_ (fun s => ?_) s
  · show rowDown (Y 7) (ix2 r j) = _
    pointwise [rowDown, zrow]
    by_cases hr : r.val < 1
    · have hr0 : r.val = 0 := by omega
      simp [hr0, hz]
    · rw [dif_neg hr, h]; congr 2; simp; omega
  · have e : Hog.above Y s.succ = Y s.castSucc := by fin_cases s <;> rfl
    rw [e, h]; congr 2; simp; ring

theorem Sl.below (h : Sl Y f) (hz : ∀ j, f 512 j = 0) : Sl (below Y) (fun i j => f (i + 1) j) := by
  intro s r j
  refine Fin.lastCases ?_ (fun s => ?_) s
  · show rowUp (Y 0) (ix2 r j) = _
    pointwise [rowUp, zrow]
    by_cases hr : r.val < 63
    · rw [dif_pos hr, h]; congr 2; simp; omega
    · rw [dif_neg hr, show (8 * (r.val : ℤ) + ((Fin.last 7).val : ℤ) + 1) = 512 by have := r.isLt; simp; omega, hz]; rfl
  · have e : Hog.below Y s.castSucc = Y s.succ := by fin_cases s <;> rfl
    rw [e, h]; congr 2

theorem Sl.right (h : Sl Y f) (hz : ∀ i, f i (-1) = 0) : Sl (fun s => colRight (Y s)) (fun i j => f i (j - 1)) := by
  intro s r j
  pointwise [colRight, zcol]
  by_cases hj : j.val < 1
  · rw [dif_pos hj, show ((j.val : ℤ) - 1) = -1 by omega, hz]; rfl
  · rw [dif_neg hj, h]; congr 2; simp; omega

theorem Sl.left (h : Sl Y f) (hz : ∀ i, f i 512 = 0) : Sl (fun s => colLeft (Y s)) (fun i j => f i (j + 1)) := by
  intro s r j
  pointwise [colLeft, zcol]
  by_cases hj : j.val < 511
  · rw [dif_pos hj, h]; congr 2; simp; omega
  · rw [dif_neg hj, show ((j.val : ℤ) + 1) = 512 by have := j.isLt; omega, hz]; rfl

theorem Sl.accum (h : Sl Y f) (r : Fin 64) (j : Fin 512) : accum Y (ix2 r j) = ((∑ s : Fin 8, f (8 * r.val + s.val) j.val : ℝ) : EReal) := by
  pointwise [Hog.accum]
  simp only [h _ r j, ← EReal.coe_add, Fin.sum_univ_eight]

end Moves

/-! ## The gradient -/

/-- A plane that vanishes outside its 512 rows and columns. -/
def Bordered (p : ℤ → ℤ → ℝ) : Prop := ∀ i j, (i < 0 ∨ 512 ≤ i ∨ j < 0 ∨ 512 ≤ j) → p i j = 0

/-- The two Sobel responses of a plane. -/
def grad0 (p : ℤ → ℤ → ℝ) (i j : ℤ) : ℝ :=
  ((p (i - 1) (j - 1) - p (i - 1) (j + 1)) + (2 * p i (j - 1) - 2 * p i (j + 1))) + (p (i + 1) (j - 1) - p (i + 1) (j + 1))
def grad1 (p : ℤ → ℤ → ℝ) (i j : ℤ) : ℝ :=
  ((p (i - 1) (j - 1) - p (i + 1) (j - 1)) + (2 * p (i - 1) j - 2 * p (i + 1) j)) + (p (i - 1) (j + 1) - p (i + 1) (j + 1))

section Pixel
variable {Y : Fin 8 → Slab Ideal} {p : ℤ → ℤ → ℝ} (h : Sl Y p) (hb : Bordered p)
include h hb

theorem yb_sl : Sl (yb Y) p := by
  intro s r j; pointwise [yb]; exact h s r j

theorem sv_sl : Sl (sv Y) (fun i j => p (i - 1) j + 2 * p i j + p (i + 1) j) := by
  intro s r j
  have y := yb_sl h hb
  have a := y.above (fun j => hb _ _ (by omega)) s r j
  have b := y.below (fun j => hb _ _ (by omega)) s r j
  pointwise [sv, lit]
  rw [a, b, y s r j, word_two]
  simp only [← EReal.coe_mul, ← EReal.coe_add]

theorem sh_sl : Sl (sh Y) (fun i j => p i (j - 1) + 2 * p i j + p i (j + 1)) := by
  intro s r j
  have y := yb_sl h hb
  have a : colRight (yb Y s) (ix2 r j) = _ := y.right (fun j => hb _ _ (by omega)) s r j
  have b : colLeft (yb Y s) (ix2 r j) = _ := y.left (fun j => hb _ _ (by omega)) s r j
  pointwise [sh, lit]
  rw [a, b, y s r j, word_two]
  simp only [← EReal.coe_mul, ← EReal.coe_add]

theorem g0_sl : Sl (g0 Y) (grad0 p) := by
  intro s r j
  have y := sv_sl h hb
  have z (i j : ℤ) (hj : j < 0 ∨ 512 ≤ j) : p (i - 1) j + 2 * p i j + p (i + 1) j = 0 := by
    rw [hb _ _ (by omega), hb _ _ (by omega), hb _ _ (by omega)]; norm_num
  have a : colRight (sv Y s) (ix2 r j) = _ := y.right (fun i => z i _ (by omega)) s r j
  have b : colLeft (sv Y s) (ix2 r j) = _ := y.left (fun i => z i _ (by omega)) s r j
  pointwise [g0]
  rw [a, b]
  simp only [← EReal.coe_sub]
  congr 1; unfold grad0; ring

theorem g1_sl : Sl (g1 Y) (grad1 p) := by
  intro s r j
  have y := sh_sl h hb
  have z (i j : ℤ) (hj : i < 0 ∨ 512 ≤ i) : p i (j - 1) + 2 * p i j + p i (j + 1) = 0 := by
    rw [hb _ _ (by omega), hb _ _ (by omega), hb _ _ (by omega)]; norm_num
  have a := y.above (fun i => z _ i (by omega)) s r j
  have b := y.below (fun i => z _ i (by omega)) s r j
  pointwise [g1]
  rw [a, b]
  simp only [← EReal.coe_sub]
  congr 1; unfold grad1; ring

theorem mag_sl : Sl (mag Y) (fun i j => Bins.mag (grad0 p i j) (grad1 p i j)) := by
  intro s r j
  pointwise [mag]
  rw [g0_sl h hb s r j, g1_sl h hb s r j]
  simp only [← EReal.coe_mul, ← EReal.coe_add]
  rw [Ideal.sqrt_coe, if_neg (not_lt.2 (add_nonneg (mul_self_nonneg _) (mul_self_nonneg _))), Bins.mag]

theorem om_sl : Sl (om Y) (fun i j => Bins.om (grad0 p i j) (grad1 p i j)) := by
  intro s r j
  pointwise [om, lit]
  rw [mag_sl h hb s r j, Bins.om, EReal.coe_sub]; rfl

theorem flip_at (x : ℤ → ℤ → ℝ) (X : Fin 8 → Slab Ideal) (hX : Sl X x) :
    Sl (fun s => select (neg Y s) (subf (lit 0x00000000#32) (X s)) (X s)) (fun i j => Bins.flip (grad0 p i j) (grad1 p i j) (x i j)) := by
  intro s r j
  pointwise [neg, lit]
  rw [g0_sl h hb s r j, g1_sl h hb s r j, hX s r j, andi_bool, ori_bool, select_bool, zero_sub, ← EReal.coe_neg, coe_ite, Bins.flip, Bins.Neg]
  simp only [EReal.coe_neg', EReal.coe_eq_zero]
  congr

theorem cross_sl (k : Fin 9) : Sl (cross Y k) (fun i j => Bins.cross (grad0 p i j) (grad1 p i j) k) := by
  intro s r j
  have a : gx Y s (ix2 r j) = _ := flip_at h hb _ _ (g0_sl h hb) s r j
  have b : gy Y s (ix2 r j) = _ := flip_at h hb _ _ (g1_sl h hb) s r j
  pointwise [cross, lit]
  rw [a, b, word_cot, ← EReal.coe_mul, ← EReal.coe_sub, Bins.cross]

theorem pa_at (k : Fin 9) (r : Fin 64) (j : Fin 512) : pa Y k (ix2 r j)
    = ((∑ s : Fin 8, Bins.pa (grad0 p (8 * r.val + s.val) j.val) (grad1 p (8 * r.val + s.val) j.val) k : ℝ) : EReal) := by
  refine Sl.accum (f := fun i j => Bins.pa (grad0 p i j) (grad1 p i j) k) (fun s r j => ?_) r j
  pointwise [lit]
  rw [cross_sl h hb k s r j, mag_sl h hb s r j, ← EReal.coe_zero, coe_ite, Bins.pa]
  simp only [EReal.coe_le_coe_iff]

theorem pb_at (k : Fin 9) (r : Fin 64) (j : Fin 512) : pb Y k (ix2 r j)
    = ((∑ s : Fin 8, Bins.pb (grad0 p (8 * r.val + s.val) j.val) (grad1 p (8 * r.val + s.val) j.val) k : ℝ) : EReal) := by
  refine Sl.accum (f := fun i j => Bins.pb (grad0 p i j) (grad1 p i j) k) (fun s r j => ?_) r j
  pointwise [lit, axis0]
  rw [cross_sl h hb k s r j, om_sl h hb s r j, g0_sl h hb s r j, ori_bool, select_bool, ← EReal.coe_zero, coe_ite, Bins.pb]
  simp only [EReal.coe_lt_coe_iff, EReal.coe_eq_coe_iff]

theorem pas_at (n : Fin 11) (r : Fin 64) (j : Fin 512) : pas Y n (ix2 r j)
    = ((∑ s : Fin 8, Bins.pas (grad0 p (8 * r.val + s.val) j.val) (grad1 p (8 * r.val + s.val) j.val) n : ℝ) : EReal) := by
  fin_cases n
  · exact (mag_sl h hb).accum r j
  iterate 9 exact pa_at h hb _ r j
  · show lit 0x00000000#32 (ix2 r j) = _
    pointwise [lit]
    simp [Bins.pas]

theorem pbs_at (n : Fin 11) (r : Fin 64) (j : Fin 512) : pbs Y n (ix2 r j)
    = ((∑ s : Fin 8, Bins.pbs (grad0 p (8 * r.val + s.val) j.val) (grad1 p (8 * r.val + s.val) j.val) n : ℝ) : EReal) := by
  fin_cases n
  · show subf (lit 0x41000000#32) (accum (mag Y)) (ix2 r j) = _
    pointwise [lit]
    rw [(mag_sl h hb).accum r j, word_eight, ← EReal.coe_sub]
    congr 1
    simp [Bins.pbs, Bins.om, Finset.sum_sub_distrib]
  iterate 9 exact pb_at h hb _ r j
  · show lit 0x00000000#32 (ix2 r j) = _
    pointwise [lit]
    simp [Bins.pbs]

/-- A channel before pooling over columns: the sum of its pixels over the eight rows. -/
theorem chan_at (n : Fin 10) (r : Fin 64) (j : Fin 512) : chan Y n (ix2 r j)
    = ((∑ s : Fin 8, Bins.chan (grad0 p (8 * r.val + s.val) j.val) (grad1 p (8 * r.val + s.val) j.val) n : ℝ) : EReal) := by
  pointwise [chan]
  rw [pas_at h hb, pas_at h hb, pbs_at h hb, pbs_at h hb]
  simp only [← EReal.coe_sub, ← EReal.coe_add]
  congr 1
  simp only [← Finset.sum_sub_distrib, ← Finset.sum_add_distrib]
  rfl

end Pixel

/-! ## Pooling -/

theorem poolMat_at (j : Fin 512) (q : Fin 64) : (poolMat (ix2 j q) : Ideal .bf16) = ((if j.val / 8 = q.val then 1 else 0 : ℝ) : EReal) := by
  pointwise [poolMat, group8]
  have e : ∀ (j : Fin 512) , (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 j.val) 8#32) 0#32))
            (IntOp.subi (IntOp.divsi ArithUnit.vector (BitVec.ofNat 32 j.val) 8#32) 1#32)
            (IntOp.divsi ArithUnit.vector (BitVec.ofNat 32 j.val) 8#32)) = BitVec.ofNat 32 (j.val / 8) := by decide +kernel
  rw [e]
  have hj := j.isLt
  have hq := q.isLt
  by_cases hh : j.val / 8 = q.val
  · rw [if_pos hh, hh]; simp [IntOp.cmpi]; show (((1#32).toInt : ℝ) : EReal) = 1; simp
  · have hne : BitVec.ofNat 32 (j.val / 8) ≠ BitVec.ofNat 32 q.val := by
      intro k; have := congrArg BitVec.toNat k; simp at this; omega
    have hbeq : (BitVec.ofNat 32 (j.val / 8) == BitVec.ofNat 32 q.val) = false := beq_eq_false_iff_ne.2 hne
    rw [if_neg hh]; simp only [IntOp.cmpi, hbeq]; show (((0#32).toInt : ℝ) : EReal) = _; simp

/-- A finite array pooled: the mean of a row's eight columns, the row's entries being sums of eight. -/
theorem pooled_at (C : FVec Ideal S704x512 .f32) (R : Fin 704) (q : Fin 64) (f : ℤ → ℝ)
    (hf : ∀ j : Fin 512, C (ix2 R j) = ((f j.val : ℝ) : EReal)) :
    pooled C (ix2 R q) = (((∑ e : Fin 8, f (8 * q.val + e.val)) / 64 : ℝ) : EReal) := by
  pointwise [pooled, hiPart, loPart]
  simp only [hf, poolMat_at, ← EReal.coe_sub, ← EReal.coe_mul, sub_self, zero_mul, coe_sum, word_64th, Finset.sum_const_zero, ← EReal.coe_add]
  congr 1
  rw [add_zero, mul_one_div]
  congr 1
  have hq := q.isLt
  let emb : Fin 8 → Fin 512 := fun e => ⟨8 * q.val + e.val, by omega⟩
  have hinj : Function.Injective emb := fun a b k => by
    have := congrArg Fin.val k; simp only [emb] at this; exact Fin.ext (by omega)
  rw [← Finset.sum_subset (Finset.subset_univ (Finset.univ.image emb)), Finset.sum_image (fun a _ b _ k => hinj k)]
  · refine Finset.sum_congr rfl fun e _ => ?_
    have : (emb e).val / 8 = q.val := by simp only [emb]; omega
    rw [if_pos this, mul_one]; simp [emb]
  · intro j _ hj
    rw [if_neg, mul_zero]
    intro k
    apply hj
    rw [Finset.mem_image]
    exact ⟨⟨j.val % 8, by omega⟩, Finset.mem_univ _, Fin.ext (by simp only [emb]; omega)⟩

section Block
variable {Y : Fin 8 → Slab Ideal} {p : ℤ → ℤ → ℝ} (h : Sl Y p) (hb : Bordered p)

/-- The eleven channels, stacked. -/
theorem chans_at (n : Fin 10) (r : Fin 64) (j : Fin 512) :
    chans Y (ix2 ⟨64 * n.val + r.val, by omega⟩ j) = chan Y n (ix2 r j) := by
  pointwise [chans]
  have hr := r.isLt
  fin_cases n <;> simp (disch := omega) only [dif_pos, dif_neg] <;> congr 2 <;> exact Fin.ext (by simp <;> omega)

theorem chans_last (r : Fin 64) (j : Fin 512) : chans Y (ix2 ⟨640 + r.val, by omega⟩ j) = accum Y (ix2 r j) := by
  pointwise [chans]
  have hr := r.isLt
  simp (disch := omega) only [dif_neg]; congr 2; exact Fin.ext (by simp; omega)

include h hb in
/-- **A channel of the block**: the mean of its pixels over each square. -/
theorem block_at (n : Fin 10) (r q : Fin 64) : block Y (ix2 ⟨64 * n.val + r.val, by omega⟩ q)
    = (((∑ e : Fin 8, ∑ s : Fin 8, Bins.chan (grad0 p (8 * r.val + s.val) (8 * q.val + e.val)) (grad1 p (8 * r.val + s.val) (8 * q.val + e.val)) n) / 64 : ℝ) : EReal) :=
  pooled_at (chans Y) _ q (fun j => ∑ s : Fin 8, Bins.chan (grad0 p (8 * r.val + s.val) j) (grad1 p (8 * r.val + s.val) j) n)
    (fun j => (chans_at n r j).trans (chan_at h hb n r j))

include h in
theorem block_last (r q : Fin 64) : block Y (ix2 ⟨640 + r.val, by omega⟩ q)
    = (((∑ e : Fin 8, ∑ s : Fin 8, p (8 * r.val + s.val) (8 * q.val + e.val)) / 64 : ℝ) : EReal) :=
  pooled_at (chans Y) _ q (fun j => ∑ s : Fin 8, p (8 * r.val + s.val) j) (fun j => (chans_last r j).trans (h.accum r j))

end Block

end Cert.KernelIdeal.Hog
end
-- ==== Proof.Ref.lean ====
/-
  The reference at an index, over the reals: its histogram channels are the means over squares of eight by eight pixels of
  the bins' values, its last channels the means of the image.
-/
module

public import proofs.«01_k».proof.Proof.Pix
public import proofs.«01_k».proof.Proof.Gen.ReferenceIdeal.Read

@[expose] public section

set_option maxRecDepth 16384

noncomputable section

namespace Cert.ReferenceIdeal.Hog

open Cert.ReferenceIdeal Cert.ReferenceIdeal.Gen Cert.ReferenceIdeal.Read
open Idealize.ShloMosaic Idealize.ShloMosaic.TcCoe Idealize.ShloMosaic.Tactic
open Cert.KernelIdeal.Hog (grad0 grad1 Bordered word_two coe_sum)

variable (x : FVec Ideal S8x3x512x512 .f32)

/-- A plane of the image, zero outside it. -/
def plane (n : Fin 8) (c : Fin 3) (i j : ℤ) : ℝ :=
  if h : (0 ≤ i ∧ i < 512) ∧ (0 ≤ j ∧ j < 512) then
    EReal.toReal (x (ix4 n c ⟨i.toNat, by omega⟩ ⟨j.toNat, by omega⟩)) else 0

theorem plane_bordered (n : Fin 8) (c : Fin 3) : Bordered (plane x n c) := fun i j h => by
  unfold plane; rw [dif_neg (by omega)]

/-- Every element of the image is a real. -/
def Finite : Prop := ∀ n c i j, x (ix4 n c i j) ≠ ⊤ ∧ x (ix4 n c i j) ≠ ⊥

section
variable {x} (hx : Finite x)
include hx

theorem plane_at (n : Fin 8) (c : Fin 3) (i j : Fin 512) : x (ix4 n c i j) = ((plane x n c i.val j.val : ℝ) : EReal) := by
  unfold plane
  rw [dif_pos ⟨⟨by omega, by exact_mod_cast i.isLt⟩, ⟨by omega, by exact_mod_cast j.isLt⟩⟩]
  exact (EReal.coe_toReal (hx n c i j).1 (hx n c i j).2).symm

theorem pad_at (n : Fin 8) (c : Fin 3) (i j : Fin 514) :
    val_main_v0 (F := Ideal) x (ix4 n c i j) = ((plane x n c ((i.val : ℤ) - 1) ((j.val : ℤ) - 1) : ℝ) : EReal) := by
  pointwise [val_main_v0]
  split
  · next h =>
    rw [plane_at hx]; congr 2 <;> simp <;> omega
  · next h =>
    rw [plane_bordered x n c _ _ (by omega)]
    show (((0#32 : BitVec 32).toInt : ℝ) : EReal) = _
    simp

theorem pad_at' (n : Fin 8) (c : Fin 3) (a b : ℕ) (ha : a < 514) (hb : b < 514) (i j : ℤ) (hi : (a : ℤ) - 1 = i) (hj : (b : ℤ) - 1 = j) :
    val_main_v0 (F := Ideal) x (ix4 n c ⟨a, ha⟩ ⟨b, hb⟩) = ((plane x n c i j : ℝ) : EReal) := by
  subst hi hj; exact pad_at hx n c _ _

theorem g0_at (n : Fin 8) (c : Fin 3) (i j : Fin 512) :
    val_main_v15 (F := Ideal) x (ix4 n c i j) = ((grad0 (plane x n c) i.val j.val : ℝ) : EReal) := by
  pointwise [val_main_v15, val_main_v14, val_main_v13, val_main_v12, val_main_v11, val_main_v10, val_main_v9, val_main_v8, val_main_v7,
    val_main_v6, val_main_v5, val_main_v4, val_main_v3, val_main_v2, val_main_v1, val_main_cst, val_main_cst_0]
  rw [pad_at' hx n c _ _ _ _ (i.val - 1) (j.val - 1) (by omega) (by omega), pad_at' hx n c _ _ _ _ (i.val - 1) (j.val + 1) (by omega) (by omega),
    pad_at' hx n c _ _ _ _ i.val (j.val - 1) (by omega) (by omega), pad_at' hx n c _ _ _ _ i.val (j.val + 1) (by omega) (by omega),
    pad_at' hx n c _ _ _ _ (i.val + 1) (j.val - 1) (by omega) (by omega), pad_at' hx n c _ _ _ _ (i.val + 1) (j.val + 1) (by omega) (by omega), word_two]
  simp only [← EReal.coe_mul, ← EReal.coe_sub, ← EReal.coe_add]
  rfl

theorem g1_at (n : Fin 8) (c : Fin 3) (i j : Fin 512) :
    val_main_v30 (F := Ideal) x (ix4 n c i j) = ((grad1 (plane x n c) i.val j.val : ℝ) : EReal) := by
  pointwise [val_main_v30, val_main_v29, val_main_v28, val_main_v27, val_main_v26, val_main_v25, val_main_v24, val_main_v23, val_main_v22,
    val_main_v21, val_main_v20, val_main_v19, val_main_v18, val_main_v17, val_main_v16, val_main_cst_1, val_main_cst_2]
  rw [pad_at' hx n c _ _ _ _ (i.val - 1) (j.val - 1) (by omega) (by omega), pad_at' hx n c _ _ _ _ (i.val + 1) (j.val - 1) (by omega) (by omega),
    pad_at' hx n c _ _ _ _ (i.val - 1) j.val (by omega) (by omega), pad_at' hx n c _ _ _ _ (i.val + 1) j.val (by omega) (by omega),
    pad_at' hx n c _ _ _ _ (i.val - 1) (j.val + 1) (by omega) (by omega), pad_at' hx n c _ _ _ _ (i.val + 1) (j.val + 1) (by omega) (by omega), word_two]
  simp only [← EReal.coe_mul, ← EReal.coe_sub, ← EReal.coe_add]
  rfl

end

/-! ## The angle and its bins -/

theorem atan2_coe (y x : ℝ) : Ideal.atan2 (y : EReal) (x : EReal) = ((Bins.angle y x : ℝ) : EReal) := by
  show ((_ : ℝ) : EReal) = _
  unfold Bins.angle
  congr

/-- The half turn, the angle of the negative half axis. -/
theorem half_turn : Ideal.atan2 (Ideal.ofBits .f32 0x00000000#32) (Ideal.ofBits .f32 0xBF800000#32) = ((Real.pi : ℝ) : EReal) := by
  have e : Ideal.ofBits .f32 0xBF800000#32 = ((-1 : ℝ) : EReal) := by
    simp [Ideal.ofBits, Ideal.ieee, -EReal.coe_mul, -EReal.coe_neg]; norm_num
  rw [e, Ideal.ofBits_zero_f32, ← EReal.coe_zero, atan2_coe, Bins.angle]
  norm_num

theorem word_ten : Ideal.ofBits .f32 0x41200000#32 = ((10 : ℝ) : EReal) := by
  simp [Ideal.ofBits, Ideal.ieee, -EReal.coe_mul]; norm_num

/-- The remainder by ten, as the host computes it from a remainder of the dividend's sign. -/
def rem10 (z : BitVec 32) : BitVec 32 :=
  Scalar.select
    (IntOp.andi (IntOp.cmpi .ne (IntOp.cmpi .slt (IntOp.remsi .host z 10#32) 0#32) (IntOp.cmpi .slt 10#32 0#32))
      (IntOp.cmpi .ne (IntOp.remsi .host z 10#32) 0#32))
    (IntOp.addi (IntOp.remsi .host z 10#32) 10#32) (IntOp.remsi .host z 10#32)

theorem rem10_eq (z : ℤ) (h0 : -10 ≤ z) (h1 : z ≤ 10) : rem10 (BitVec.ofInt 32 z) = BitVec.ofInt 32 (z % 10) := by
  have key : ∀ k : Fin 21, rem10 (BitVec.ofInt 32 ((k.val : ℤ) - 10)) = BitVec.ofInt 32 (((k.val : ℤ) - 10) % 10) := by decide +kernel
  have := key ⟨(z + 10).toNat, by omega⟩
  have e : ((((z + 10).toNat : ℕ) : ℤ) - 10) = z := by omega
  simpa only [e] using this

/-- A whole number in range, as the host's integer. -/
theorem fptosi_int (z : ℤ) (h0 : -10 ≤ z) (h1 : z ≤ 10) : FloatOps.fptosi (F := Ideal) (φ := .f32) 32 (((z : ℝ) : EReal)) = BitVec.ofInt 32 z := by
  show Ideal.fptosi 32 _ = _
  rw [Ideal.fptosi, Ideal.toIntClamped_coe]
  congr 1
  rw [Int.floor_intCast, Int.ceil_intCast, ite_self]
  norm_num; omega

/-- The indicator of a bin. -/
theorem hot (z : ℤ) (b : Fin 10) : (FloatOps.uitofp (F := Ideal) .f32 (IntOp.cmpi .eq (BitVec.ofInt 32 (z % 10)) (BitVec.ofNat 32 b.val)) : EReal)
    = ((if z % 10 = (b.val : ℤ) then 1 else 0 : ℝ) : EReal) := by
  have key : ∀ k b : Fin 10, IntOp.cmpi .eq (BitVec.ofInt 32 (k.val : ℤ)) (BitVec.ofNat 32 b.val) = if k = b then 1#1 else 0#1 := by decide +kernel
  have hz := key ⟨(z % 10).toNat, by omega⟩ b
  have e : (((z % 10).toNat : ℕ) : ℤ) = z % 10 := by omega
  simp only [e] at hz
  rw [hz]
  by_cases h : z % 10 = (b.val : ℤ)
  · rw [if_pos h, if_pos (Fin.ext (by simp only; omega))]; show (((1#1).toNat : ℝ) : EReal) = _; simp
  · rw [if_neg h, if_neg (fun k => h (by have := congrArg Fin.val k; simp only at this; omega))]; show (((0#1).toNat : ℝ) : EReal) = _; simp

section
variable {x} (hx : Finite x)
include hx

theorem phase_at (n : Fin 8) (c : Fin 3) (i j : Fin 512) : val_main_v41 (F := Ideal) x (ix4 n c i j)
    = ((Bins.phase (grad0 (plane x n c) i.val j.val) (grad1 (plane x n c) i.val j.val) : ℝ) : EReal) := by
  pointwise [val_main_v41, val_main_v40, val_main_v39, val_main_v38, val_main_v37, val_main_v36, val_main_v35]
  rw [g0_at hx, g1_at hx, atan2_coe]
  show Ideal.div _ (Ideal.atan2 (Ideal.ofBits .f32 0x00000000#32) (Ideal.ofBits .f32 0xBF800000#32)) * Ideal.ofBits .f32 0x41200000#32 = _
  rw [half_turn, word_ten, Ideal.div_coe Real.pi_ne_zero, ← EReal.coe_mul, ← EReal.coe_mul, Bins.phase, mul_one_div]

theorem mag_at (n : Fin 8) (c : Fin 3) (i j : Fin 512) : val_main_v34 (F := Ideal) x (ix4 n c i j)
    = ((Bins.mag (grad0 (plane x n c) i.val j.val) (grad1 (plane x n c) i.val j.val) : ℝ) : EReal) := by
  pointwise [val_main_v34, val_main_v33, val_main_v32, val_main_v31]
  rw [g0_at hx, g1_at hx]
  simp only [← EReal.coe_mul, ← EReal.coe_add]
  rw [Ideal.sqrt_coe, if_neg (not_lt.2 (add_nonneg (mul_self_nonneg _) (mul_self_nonneg _))), Bins.mag]

theorem floor_at (n : Fin 8) (c : Fin 3) (i j : Fin 512) : val_main_v44 (F := Ideal) x (ix4 n c i j)
    = BitVec.ofInt 32 (⌊Bins.phase (grad0 (plane x n c) i.val j.val) (grad1 (plane x n c) i.val j.val)⌋ % 10) := by
  have m := Bins.phase_mem (grad0 (plane x n c) i.val j.val) (grad1 (plane x n c) i.val j.val)
  have h0 : -10 ≤ ⌊Bins.phase (grad0 (plane x n c) i.val j.val) (grad1 (plane x n c) i.val j.val)⌋ := Int.le_floor.2 (by push_cast; exact m.1)
  have h1 : ⌊Bins.phase (grad0 (plane x n c) i.val j.val) (grad1 (plane x n c) i.val j.val)⌋ ≤ 10 :=
    by exact_mod_cast (Int.floor_le _).trans m.2
  rw [← rem10_eq _ h0 h1, ← fptosi_int _ h0 h1]
  pointwise [val_main_v44, val_main_call1_v14, val_main_call1_v13, val_main_call1_v12, val_main_call1_v11, val_main_call1_v10, val_main_call1_v9,
    val_main_call1_v8, val_main_call1_v7, val_main_call1_v6, val_main_call1_v5, val_main_call1_v4, val_main_call1_v3, val_main_call1_v2,
    val_main_call1_v1, val_main_call1_v0, val_main_c_6, val_main_call1_c, val_main_call1_c_0, val_main_call1_c_1, val_main_call1_c_2,
    val_main_call1_c_3, val_main_v43, val_main_v42]
  rw [phase_at hx]
  rfl

theorem ceil_at (n : Fin 8) (c : Fin 3) (i j : Fin 512) : val_main_v47 (F := Ideal) x (ix4 n c i j)
    = BitVec.ofInt 32 (⌈Bins.phase (grad0 (plane x n c) i.val j.val) (grad1 (plane x n c) i.val j.val)⌉ % 10) := by
  have m := Bins.phase_mem (grad0 (plane x n c) i.val j.val) (grad1 (plane x n c) i.val j.val)
  have h0 : -10 ≤ ⌈Bins.phase (grad0 (plane x n c) i.val j.val) (grad1 (plane x n c) i.val j.val)⌉ :=
    by exact_mod_cast m.1.trans (Int.le_ceil _)
  have h1 : ⌈Bins.phase (grad0 (plane x n c) i.val j.val) (grad1 (plane x n c) i.val j.val)⌉ ≤ 10 := Int.ceil_le.2 (by push_cast; exact m.2)
  rw [← rem10_eq _ h0 h1, ← fptosi_int _ h0 h1]
  pointwise [val_main_v47, val_main_call2_v14, val_main_call2_v13, val_main_call2_v12, val_main_call2_v11, val_main_call2_v10, val_main_call2_v9,
    val_main_call2_v8, val_main_call2_v7, val_main_call2_v6, val_main_call2_v5, val_main_call2_v4, val_main_call2_v3, val_main_call2_v2,
    val_main_call2_v1, val_main_call2_v0, val_main_c_7, val_main_call2_c, val_main_call2_c_0, val_main_call2_c_1, val_main_call2_c_2,
    val_main_call2_c_3, val_main_v46, val_main_v45]
  rw [phase_at hx]
  rfl

/-- A pixel's value in a bin. -/
theorem pixel_at (n : Fin 8) (c : Fin 3) (i j : Fin 512) (b : Fin 10) : val_main_v58 (F := Ideal) x (ix5 n c i j b)
    = ((Bins.ref (grad0 (plane x n c) i.val j.val) (grad1 (plane x n c) i.val j.val) b : ℝ) : EReal) := by
  pointwise [val_main_v58, val_main_v57, val_main_v56, val_main_v55, val_main_v54, val_main_v53, val_main_v52, val_main_v51, val_main_v50,
    val_main_v49, val_main_v48, val_main_call3_v4, val_main_call3_v3, val_main_call3_v2, val_main_call3_v1, val_main_call3_v0,
    val_main_call4_v4, val_main_call4_v3, val_main_call4_v2, val_main_call4_v1, val_main_call4_v0, val_main_cst_8]
  rw [floor_at hx, ceil_at hx, mag_at hx, hot, hot, ← EReal.coe_one, ← EReal.coe_sub, ← EReal.coe_mul, ← EReal.coe_mul, ← EReal.coe_add, Bins.ref]

end

/-! ## Pooling -/

/-- A sum over the two inner axes of a stack of squares. -/
theorem sum_squares {K : ℕ} (h : Shape.ReducesTo ⟨6, ![8, K, 64, 8, 64, 8]⟩ [3, 5] ⟨4, ![8, K, 64, 64]⟩)
    (v : (⟨6, ![8, K, 64, 8, 64, 8]⟩ : Shape).Idx → EReal) (init : EReal) (n : Fin 8) (c : Fin K) (r q : Fin 64) :
    Ideal.hostReduceAdd h v init (ix4 n c r q) = init + ∑ e : Fin 8, ∑ s : Fin 8, v (ix6 n c r s q e) := by
  unfold Ideal.hostReduceAdd
  congr 1
  rw [← Finset.sum_product' (s := Finset.univ) (t := Finset.univ) (f := fun (e s : Fin 8) => v (ix6 n c r s q e))]
  symm
  have hd : ∀ i, h.drop i = ix4 (i 0) (i 1) (i 2) (i 4) := fun i => by
    funext b
    apply Fin.ext
    rw [Shape.ReducesTo.drop_apply_val]
    match b with
    | ⟨0, _⟩ => rfl
    | ⟨1, _⟩ => rfl
    | ⟨2, _⟩ => rfl
    | ⟨3, _⟩ => rfl
  refine Finset.sum_nbij' (fun p => ix6 n c r p.2 q p.1) (fun i => (i 5, i 3)) ?_ ?_ ?_ ?_ ?_
  · intro p _; rw [Finset.mem_filter, hd]; exact ⟨Finset.mem_univ _, rfl⟩
  · intro i _; simp
  · intro p _; rfl
  · intro i hi
    rw [Finset.mem_filter, hd] at hi
    obtain ⟨e0, e1, e2, e3⟩ := (ix4_inj ..).1 hi.2
    rw [← e0, ← e1, ← e2, ← e3]
    exact ix6_eta i
  · intro p _; rfl

theorem word_64 : Ideal.ofBits .f32 0x42800000#32 = ((64 : ℝ) : EReal) := by
  simp [Ideal.ofBits, Ideal.ieee, -EReal.coe_mul]; norm_num

section
variable {x} (hx : Finite x)
include hx

/-- A histogram channel. -/
theorem hist_at (n : Fin 8) (c : Fin 3) (b : Fin 10) (r q : Fin 64) :
    val_main_v69 (F := Ideal) x (ix4 n ⟨10 * c.val + b.val, by omega⟩ r q)
      = (((∑ e : Fin 8, ∑ s : Fin 8, Bins.ref (grad0 (plane x n c) (8 * r.val + s.val) (8 * q.val + e.val))
          (grad1 (plane x n c) (8 * r.val + s.val) (8 * q.val + e.val)) b) / 64 : ℝ) : EReal) := by
  have hc := c.isLt; have hb := b.isLt
  have px (s e : Fin 8) : val_main_v61 (F := Ideal) x (ix6 n ⟨10 * c.val + b.val, by omega⟩ r s q e)
      = ((Bins.ref (grad0 (plane x n c) (8 * r.val + s.val) (8 * q.val + e.val))
          (grad1 (plane x n c) (8 * r.val + s.val) (8 * q.val + e.val)) b : ℝ) : EReal) := by
    pointwise [val_main_v61, val_main_v60, val_main_v59]
    rw [pixel_at hx]
    simp only [Nat.cast_add, Nat.cast_mul, Nat.cast_ofNat, mul_comm _ (8 : ℤ)]
  pointwise [val_main_v69]
  rw [dif_pos (by omega)]
  pointwise [val_main_v64, val_main_v63, val_main_cst_10, val_main_v62]
  rw [sum_squares]
  show Ideal.div (Ideal.ofBits .f32 0x00000000#32 + _) _ = _
  rw [Ideal.ofBits_zero_f32, zero_add, word_64, Ideal.div_coe (by norm_num)]
  simp only [px, coe_sum]
  rw [← EReal.coe_mul, mul_one_div]

/-- A channel of the image. -/
theorem image_at (n : Fin 8) (c : Fin 3) (r q : Fin 64) :
    val_main_v69 (F := Ideal) x (ix4 n ⟨30 + c.val, by omega⟩ r q)
      = (((∑ e : Fin 8, ∑ s : Fin 8, plane x n c (8 * r.val + s.val) (8 * q.val + e.val)) / 64 : ℝ) : EReal) := by
  have hc := c.isLt
  have px (s e : Fin 8) : val_main_v65 (F := Ideal) x (ix6 n c r s q e)
      = ((plane x n c (8 * r.val + s.val) (8 * q.val + e.val) : ℝ) : EReal) := by
    pointwise [val_main_v65]
    rw [plane_at hx]
    simp only [Nat.cast_add, Nat.cast_mul, Nat.cast_ofNat, mul_comm _ (8 : ℤ)]
  pointwise [val_main_v69]
  pointwise [val_main_v68, val_main_v67, val_main_cst_12, val_main_v66]
  rw [sum_squares]
  show Ideal.div (Ideal.ofBits .f32 0x00000000#32 + _) _ = _
  rw [Ideal.ofBits_zero_f32, zero_add, word_64, Ideal.div_coe (by norm_num)]
  simp only [px, coe_sum]
  rw [← EReal.coe_mul, mul_one_div]

end

end Cert.ReferenceIdeal.Hog
end
-- ==== Proof.Value.lean ====
/-
  The result of the kernel: where the reference's bins are off their edges, its two arrays, put together, are the
  reference's array.
-/
module

public import proofs.«01_k».proof.Proof.Outs
public import proofs.«01_k».proof.Proof.Ref

@[expose] public section

set_option maxRecDepth 16384

noncomputable section

namespace Cert.KernelIdeal.Hog

open Cert.KernelIdeal Cert.KernelIdeal.Gen
open Idealize.ShloMosaic Idealize.ShloMosaic.TcCoe Idealize.ShloMosaic.Tactic
open Idealize.SL.Sem
open Cert.ReferenceIdeal.Hog (plane plane_bordered plane_at Finite hist_at image_at)
open Cert.ReferenceIdeal.Read (val_main_v69)

variable (m : (ℓ : Loc nD τ sig) → Buf (Elt Ideal) ℓ)

/-- The image. -/
def img (c : Dev nD) : FVec Ideal S8x3x512x512 .f32 := m ((c : Thread nD τ).loc main_arg0)

/-- Every pixel's gradient is off the bins' edges. -/
def AllOff (x : FVec Ideal S8x3x512x512 .f32) : Prop :=
  ∀ (n : Fin 8) (k : Fin 3) (i j : Fin 512), Bins.Off (grad0 (plane x n k) i.val j.val) (grad1 (plane x n k) i.val j.val)

/-- The image as the region finds it: its rows in groups of eight. -/
theorem entry_apply (c : Dev nD) (n : Fin 8) (k : Fin 3) (r : Fin 64) (s : Fin 8) (j : Fin 512) :
    V m c main_v0 (ix5 n k r s j) = img m c (ix4 n k ⟨8 * r.val + s.val, by omega⟩ j) := by
  entry_read
  refine shapeCast_apply _ _ _ _ ?_
  refine (Shape.rowMajor_val_four (d := ![8, 3, 512, 512]) _).trans (Eq.trans ?_ (Shape.rowMajor_val_five (d := ![8, 3, 64, 8, 512]) _).symm)
  show ((n.val * 3 + k.val) * 512 + (8 * r.val + s.val)) * 512 + j.val = (((n.val * 3 + k.val) * 64 + r.val) * 8 + s.val) * 512 + j.val
  omega

theorem bound (t : Fin cfg0.N) : t.val < 24 := lt_of_lt_of_eq t.isLt (show cfg0.N = 24 from N_0)

section Result
variable (c : Dev nD) (hx : Finite (img m c)) (ho : AllOff (img m c))

include hx in
/-- The slabs of a point hold a plane of the image. -/
theorem slabs_plane (t : Fin cfg0.N) :
    Sl (slabs c t (V m c main_v0)) (plane (img m c) ⟨t.val / 3, by have := bound t; omega⟩ ⟨t.val % 3, by omega⟩) := fun s r j => by
  have hb : (Ring.bk 24 t.val).val = t.val := Ring.bk_val (bound t)
  rw [slabs_apply, entry_apply, plane_at hx]
  congr 1
  congr 1 <;> simp only [hb]

include hx ho in
theorem hist_block (t : Fin cfg0.N) (b : Fin 10) (r q : Fin 64) :
    block (slabs c t (V m c main_v0)) (ix2 ⟨64 * b.val + r.val, by omega⟩ q)
      = val_main_v69 (F := Ideal) (img m c) (ix4 ⟨t.val / 3, by have := bound t; omega⟩ ⟨10 * (t.val % 3) + b.val, by omega⟩ r q) := by
  rw [block_at (slabs_plane m c hx t) (plane_bordered _ _ _) b r q]
  refine Eq.trans ?_ (hist_at hx ⟨t.val / 3, by have := bound t; omega⟩ ⟨t.val % 3, by omega⟩ b r q).symm
  congr 2
  refine Finset.sum_congr rfl fun e _ => Finset.sum_congr rfl fun s _ => ?_
  have h := ho ⟨t.val / 3, by have := bound t; omega⟩ ⟨t.val % 3, by omega⟩ ⟨8 * r.val + s.val, by omega⟩ ⟨8 * q.val + e.val, by omega⟩
  push_cast at h
  exact Bins.chan_eq h b

include hx in
theorem image_block (t : Fin cfg0.N) (r q : Fin 64) :
    block (slabs c t (V m c main_v0)) (ix2 ⟨640 + r.val, by omega⟩ q)
      = val_main_v69 (F := Ideal) (img m c) (ix4 ⟨t.val / 3, by have := bound t; omega⟩ ⟨30 + t.val % 3, by omega⟩ r q) :=
  (block_last (slabs_plane m c hx t) r q).trans (image_at hx ⟨t.val / 3, by have := bound t; omega⟩ ⟨t.val % 3, by omega⟩ r q).symm

theorem index_hist : ∀ t : Fin grid0.N, win0_0.index t = ![t.val / 3, t.val % 3, 0, 0] := by decide +kernel
theorem index_pool : ∀ t : Fin grid0.N, win0_1.index t = ![t.val / 3, t.val % 3, 0, 0] := by decide +kernel

include hx ho in
/-- The array of histograms after the run. -/
theorem arr_hist : (dats m 0 c).arrAt 0 cfg0.N
    = fun i : S8x30x64x64.Idx => val_main_v69 (F := Ideal) (img m c) (ix4 (i 0) ⟨(i 1).val, lt_trans (i 1).isLt (by decide)⟩ (i 2) (i 3)) := by
  refine (dats m 0 c).arrAt_eq_of_covers 0 _ (by decide +kernel) fun t hf y => ?_
  have y0 : (y 0).val < 1 := (y 0).isLt
  have y1 : (y 1).val < 10 := (y 1).isLt
  have y2 : (y 2).val < 64 := (y 2).isLt
  have y3 : (y 3).val < 64 := (y 3).isLt
  blk_simp
  rw [after_hist]
  refine (outHist_apply c t (V m c main_v0) _ ⟨64 * (y 1).val + (y 2).val, by omega⟩ ⟨(y 2).val, y2⟩ ⟨(y 3).val, y3⟩ rfl rfl rfl).trans ?_
  refine (hist_block m c hx ho t ⟨(y 1).val, y1⟩ ⟨(y 2).val, y2⟩ ⟨(y 3).val, y3⟩).trans ?_
  blk_ext [index_hist t]

include hx in
/-- The array of the pooled image after the run. -/
theorem arr_pool : (dats m 0 c).arrAt 1 cfg0.N
    = fun i : S8x3x64x64.Idx => val_main_v69 (F := Ideal) (img m c) (ix4 (i 0) ⟨30 + (i 1).val, by have h : (i 1).val < 3 := (i 1).isLt; omega⟩ (i 2) (i 3)) := by
  refine (dats m 0 c).arrAt_eq_of_covers 1 _ (by decide +kernel) fun t hf y => ?_
  have y0 : (y 0).val < 1 := (y 0).isLt
  have y1 : (y 1).val < 1 := (y 1).isLt
  have y2 : (y 2).val < 64 := (y 2).isLt
  have y3 : (y 3).val < 64 := (y 3).isLt
  blk_simp
  rw [after_pool]
  refine (outPool_apply c t (V m c main_v0) _ ⟨640 + (y 2).val, by omega⟩ ⟨(y 2).val, y2⟩ ⟨(y 3).val, y3⟩ rfl rfl rfl).trans ?_
  refine (image_block m c hx t ⟨(y 2).val, y2⟩ ⟨(y 3).val, y3⟩).trans ?_
  blk_ext [index_pool t]

/-- After the line past the region, the result is the two arrays one after the other. -/
theorem tail_result : Pipeline.afterTail₀ cfgs (dats m) 0 (V0 m) [hostOps1] c main_v2
    = concatenate S8x33x64x64 1 [⟨S8x30x64x64, (dats m 0 c).arrAt 0 cfg0.N⟩, ⟨S8x3x64x64, (dats m 0 c).arrAt 1 cfg0.N⟩] concatenates_S8x30x64x64_S8x3x64x64_S8x33x64x64_d1 := by
  have h (w : Fin 2) := Pipeline.withArrays_arr spec0 (by decide) c (V0 m c) (fun w => (dats m 0 c).arrAt w cfg0.N) w
  unfold Pipeline.afterTail₀
  simp only [hostOps1, List.flatten_cons, List.flatten_nil, List.append_nil, StableHlo.after_cons, StableHlo.after_nil]
  refine (StableHlo.binary_result _ _ _ _ _ _ _ _).trans ?_
  rw [show Pipeline.withArrays spec0 c (V0 m c) (fun w => (dats m 0 c).arrAt w cfg0.N) (Proc.devRef .tc main_v1_0) = _ from h 0,
    show Pipeline.withArrays spec0 c (V0 m c) (fun w => (dats m 0 c).arrAt w cfg0.N) (Proc.devRef .tc main_v1_1) = _ from h 1]

include hx ho in
/-- **The result of the kernel is the reference's.** -/
theorem result_eq : Pipeline.afterTail₀ cfgs (dats m) 0 (V0 m) [hostOps1] c main_v2 = val_main_v69 (F := Ideal) (img m c) := by
  rw [tail_result, arr_hist m c hx ho, arr_pool m c hx]
  funext i
  have i1 : (i 1).val < 33 := (i 1).isLt
  by_cases h : (i 1).val < 30
  · refine (concatenate_pair_apply_left (s₁ := S8x30x64x64) (s₂ := S8x3x64x64) 1 _ _ _ i rfl (ix4 (i 0) ⟨(i 1).val, h⟩ (i 2) (i 3)) fun b => ?_).trans (congrArg _ ?_)
    · match b with
      | ⟨0, _⟩ => rfl
      | ⟨1, _⟩ => rfl
      | ⟨2, _⟩ => rfl
      | ⟨3, _⟩ => rfl
    · funext b
      match b with
      | ⟨0, _⟩ => rfl
      | ⟨1, _⟩ => rfl
      | ⟨2, _⟩ => rfl
      | ⟨3, _⟩ => rfl
  · refine (concatenate_pair_apply_right (s₁ := S8x30x64x64) (s₂ := S8x3x64x64) 1 _ _ _ i rfl rfl (ix4 (i 0) ⟨(i 1).val - 30, by omega⟩ (i 2) (i 3)) (fun b hb => ?_) ?_).trans (congrArg _ ?_)
    · match b with
      | ⟨0, _⟩ => rfl
      | ⟨1, _⟩ => exact (hb rfl).elim
      | ⟨2, _⟩ => rfl
      | ⟨3, _⟩ => rfl
    · show (i 1).val - 30 + 30 = (i 1).val; omega
    · funext b
      match b with
      | ⟨0, _⟩ => rfl
      | ⟨1, _⟩ => exact Fin.ext (by show 30 + ((i 1).val - 30) = (i 1).val; omega)
      | ⟨2, _⟩ => rfl
      | ⟨3, _⟩ => rfl

end Result

/-- **The run**: where every pixel is off the edges, the kernel's result is the reference's, and the image is as it was. -/
theorem run_value (ρ : Dev nD → PrngReg) (hx : ∀ c, Finite (img m c)) (ho : ∀ c, AllOff (img m c)) :
    θ_run defs (onTc (τ := τ) (main (F := Ideal))) ⟨m, fun _ => 0, ρ⟩ (fun r => ∀ c : Dev nD,
      r.2.mem ((c.tc : Thread nD τ).loc main_v2) = val_main_v69 (F := Ideal) (img m c)
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result_eq m c (hx c) (ho c)),
      ((h c).2 main_arg0 (Pipeline.mem_restRefs_of main_arg0 (by decide) (by decide))).trans (tail_arg m c)⟩) (run_post m ρ)

end Cert.KernelIdeal.Hog
end
-- ==== Proof.Pre.lean ====
/-
  The precondition read: the image is finite, and every pixel's gradient is off the bins' edges.
-/
module

public import proofs.«01_k».proof.Proof.Value
public import proofs.«01_k».proof.Proof.Gen.Pre_off_edges
public import Idealize.ShloMosaic.Lib.Affine

@[expose] public section

set_option maxRecDepth 16384

noncomputable section

namespace Cert.Pre_off_edges.Hog

open Cert.Pre_off_edges Cert.Pre_off_edges.Gen
open Idealize.ShloMosaic Idealize.ShloMosaic.TcCoe Idealize.ShloMosaic.Tactic
open Cert.KernelIdeal.Hog (grad0 grad1 AllOff)
open Cert.ReferenceIdeal.Hog (plane Finite g0_at g1_at)
open Cert.ReferenceIdeal.Read (val_main_v0 val_main_v15 val_main_v30)

variable (x : FVec Ideal S8x3x512x512 .f32)

/-- One edge's bound at a pixel. -/
def edge (w : BitVec 32) (g0 g1 : FVec Ideal S8x3x512x512 .f32) : IVec S8x3x512x512 1 :=
  cmpf .oge (Host.absf (subf (mulf (Host.absf g0) (broadcastInDim S8x3x512x512 ![] bcast_S_S8x3x512x512 (constant S_ .f32 w))) (Host.absf g1)))
    (mulf (Host.absf g0) (broadcastInDim S8x3x512x512 ![] bcast_S_S8x3x512x512 (constant S_ .f32 0x34000000#32)))

/-- The precondition is a bound on the image and four on the two gradients the reference takes. -/
theorem fn_eq : fn (F := Ideal) x
    = andi (andi (andi (andi (cmpf .olt (Host.absf x) (broadcastInDim S8x3x512x512 ![] bcast_S_S8x3x512x512 (constant S_ .f32 0x7F800000#32)))
        (edge 0x4044F8C4#32 (val_main_v15 (F := Ideal) x) (val_main_v30 (F := Ideal) x))) (edge 0x3FB02D48#32 (val_main_v15 (F := Ideal) x) (val_main_v30 (F := Ideal) x)))
        (edge 0x3F39FEB1#32 (val_main_v15 (F := Ideal) x) (val_main_v30 (F := Ideal) x))) (edge 0x3EA65BE0#32 (val_main_v15 (F := Ideal) x) (val_main_v30 (F := Ideal) x)) := by
  sl_kernel_rfl

/-- An infinite magnitude is the top. -/
theorem word_inf : Ideal.ofBits .f32 0x7F800000#32 = ⊤ := by simp [Ideal.ofBits, Ideal.ieee]
theorem word_margin : Ideal.ofBits .f32 0x34000000#32 = ((Bins.margin : ℝ) : EReal) := by
  simp [Bins.margin, Ideal.ofBits, Ideal.ieee, -EReal.coe_mul]; norm_num

theorem absf_coe (a : ℝ) : (FloatOps.absf (F := Ideal) (φ := .f32) (a : EReal)) = ((|a| : ℝ) : EReal) := by
  show max (a : EReal) (-(a : EReal)) = _
  rw [← EReal.coe_neg]
  exact (EReal.coe_strictMono.monotone.map_max (a := a) (b := -a)).symm

theorem of_bit {P : Prop} [Decidable P] (h : BitVec.ofBool (decide P) = 1#1) : P := by
  by_contra hn; simp [hn] at h

/-- An edge's bound at a pixel, over the reals. -/
theorem edge_at (w : BitVec 32) (k a b : ℝ) (g0 g1 : FVec Ideal S8x3x512x512 .f32) (i : S8x3x512x512.Idx)
    (hw : Ideal.ofBits .f32 w = (k : EReal)) (h0 : g0 i = (a : EReal)) (h1 : g1 i = (b : EReal)) (h : edge w g0 g1 i = 1#1) :
    |a| * Bins.margin ≤ abs (|a| * k - |b|) := by
  pointwise [edge] at h
  have h := of_bit h
  rw [h0, h1, hw, word_margin] at h
  simpa only [absf_coe, ← EReal.coe_mul, ← EReal.coe_sub, EReal.coe_le_coe_iff] using h

theorem finite_at (i : S8x3x512x512.Idx)
    (h : cmpf .olt (Host.absf x) (broadcastInDim S8x3x512x512 ![] bcast_S_S8x3x512x512 (constant S_ .f32 0x7F800000#32)) i = 1#1) : x i ≠ ⊤ ∧ x i ≠ ⊥ := by
  pointwise at h
  have h : max (x i) (-(x i)) < _ := of_bit h
  rw [word_inf, max_lt_iff] at h
  exact ⟨h.1.ne, fun e => by rw [e] at h; exact lt_irrefl _ h.2⟩

/-- **The precondition, read**: the image is finite and every pixel is off the edges. -/
theorem pre_read (h : fn (F := Ideal) x = fun _ => 1#1) : Finite x ∧ AllOff x := by
  rw [fn_eq] at h
  have p (i : S8x3x512x512.Idx) := IntOp.andi_eq_one.mp (congrFun h i)
  have p3 (i : S8x3x512x512.Idx) := IntOp.andi_eq_one.mp (p i).1
  have p2 (i : S8x3x512x512.Idx) := IntOp.andi_eq_one.mp (p3 i).1
  have p1 (i : S8x3x512x512.Idx) := IntOp.andi_eq_one.mp (p2 i).1
  have hx : Finite x := fun n c i j => finite_at x _ (p1 (ix4 n c i j)).1
  refine ⟨hx, fun n c i j => ?_⟩
  have a := g0_at hx n c i j
  have b := g1_at hx n c i j
  exact ⟨edge_at _ Bins.c1 _ _ _ _ _ (Cert.KernelIdeal.Hog.word_cot 0) a b (p1 _).2, edge_at _ Bins.c2 _ _ _ _ _ (Cert.KernelIdeal.Hog.word_cot 1) a b (p2 _).2,
    edge_at _ Bins.c3 _ _ _ _ _ (Cert.KernelIdeal.Hog.word_cot 2) a b (p3 _).2, edge_at _ Bins.c4 _ _ _ _ _ (Cert.KernelIdeal.Hog.word_cot 3) a b (p _).2⟩

end Cert.Pre_off_edges.Hog
end
-- ==== Proof.lean ====
module

public import proofs.«01_k».proof.Defs
public import proofs.«01_k».proof.Proof.Frames
public import proofs.«01_k».proof.Proof.Pre

@[expose] public section

set_option maxRecDepth 16384

noncomputable section

namespace Cert.Proof

open Idealize.ShloMosaic Idealize.ShloMosaic.TcCoe Idealize.SL.Sem

/-- Where the precondition holds, the kernel and the reference end with the same result over the extended reals. -/
theorem value : Cert.algebraic_KernelIdeal_ReferenceIdeal_pre_off_edges (hKernelIdeal := Cert.KernelIdeal.Gen.facts)
    (hReferenceIdeal := Cert.ReferenceIdeal.Gen.facts) (hPre_off_edges := Cert.Pre_off_edges.Gen.facts) := by
  intro m g m' g' hpre hagree
  refine ⟨fun c => Cert.ReferenceIdeal.Read.val_main_v69 (F := Ideal) (Cert.KernelIdeal.Hog.img m c),
    Cert.KernelIdeal.Hog.run_value m g (fun c => (Cert.Pre_off_edges.Hog.pre_read _ (hpre c)).1) (fun c => (Cert.Pre_off_edges.Hog.pre_read _ (hpre c)).2), ?_⟩
  refine (θ_run (Cert.ReferenceIdeal.defs (F := Ideal)) _ _).mono (fun r h c => ⟨(h c).1.trans ?_, (h c).2⟩) (Cert.ReferenceIdeal.Value.run (F := Ideal) m' g')
  rw [Cert.ReferenceIdeal.Read.val_main_v69_eq, hagree c]
  rfl

theorem claim : Cert.Claim :=
  ⟨Cert.Kernel.Gen.facts, Cert.KernelIdeal.Gen.facts, Cert.ReferenceIdeal.Gen.facts, Cert.Pre_off_edges.Gen.facts,
    frame_kernel, frame_ideal, fun m g _ => frame_ideal m g trivial, frame_reference, fun m g _ => frame_reference m g trivial, trivial, value⟩

end Cert.Proof

end
